-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top2_KernelIdeal [hPre_top2_KernelIdeal : Cert.Pre_top2_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_top2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top2_ReferenceIdeal [hPre_top2_ReferenceIdeal : Cert.Pre_top2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_top2_KernelIdeal [hKernelIdeal : Cert.KernelIdeal.Facts] [hPre_top2_KernelIdeal : Cert.Pre_top2_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top2_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_top2_ReferenceIdeal [hReferenceIdeal : Cert.ReferenceIdeal.Facts] [hPre_top2_ReferenceIdeal : Cert.Pre_top2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_top2_KernelIdeal [hKernelIdeal : Cert.KernelIdeal.Facts] [hReferenceIdeal : Cert.ReferenceIdeal.Facts] [hPre_top2_KernelIdeal : Cert.Pre_top2_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top2_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 256]⟩ ⟨2, ![256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_top2_KernelIdeal : Cert.Pre_top2_KernelIdeal.Facts) (hPre_top2_ReferenceIdeal : Cert.Pre_top2_ReferenceIdeal.Facts),
    quiescent_Kernel (hKernel := hKernel)
    ∧ quiescent_KernelIdeal (hKernelIdeal := hKernelIdeal)
    ∧ quiescent_KernelIdeal_pre_top2_KernelIdeal (hKernelIdeal := hKernelIdeal) (hPre_top2_KernelIdeal := hPre_top2_KernelIdeal)
    ∧ quiescent_ReferenceIdeal (hReferenceIdeal := hReferenceIdeal)
    ∧ quiescent_ReferenceIdeal_pre_top2_ReferenceIdeal (hReferenceIdeal := hReferenceIdeal) (hPre_top2_ReferenceIdeal := hPre_top2_ReferenceIdeal)
    ∧ preserves_Kernel_KernelIdeal
    ∧ algebraic_KernelIdeal_ReferenceIdeal_pre_top2_KernelIdeal (hKernelIdeal := hKernelIdeal) (hReferenceIdeal := hReferenceIdeal) (hPre_top2_KernelIdeal := hPre_top2_KernelIdeal)
-- ==== Pre_top2_KernelIdeal.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S256x1 : Shape := ⟨2, ![256, 1]⟩
abbrev S_ : Shape := ⟨0, ![]⟩

class Facts : Prop where
  slices_S256x2_S256x1_0_0 : S256x2.Slices ![0, 0] S256x1
  slices_S256x2_S256x1_0_1 : S256x2.Slices ![0, 1] S256x1
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .f32) (main_arg1 : FVec F S128x16 .f32) (main_arg2 : IVec S256x2 32) (main_arg3 : FVec F S2x128x256 .f32) : IVec S_ 1 :=
  let main_v0 : IVec S256x1 32 := (extractStridedSlice S256x1 ![0, 0] · slices_S256x2_S256x1_0_0) main_arg2
  let main_v1 : IVec S256x1 32 := (extractStridedSlice S256x1 ![0, 1] · slices_S256x2_S256x1_0_1) main_arg2
  let main_c : IVec S_ 32 := constantI S_ 32 0#32
  let main_v2 : IVec S256x1 32 := broadcastInDim S256x1 ![] bcast_S_S256x1 main_c
  let main_v3 : IVec S256x1 1 := cmpi .sge main_v0 main_v2
  let main_c_0 : IVec S_ 32 := constantI S_ 32 16#32
  let main_v4 : IVec S256x1 32 := broadcastInDim S256x1 ![] bcast_S_S256x1 main_c_0
  let main_v5 : IVec S256x1 1 := cmpi .slt main_v0 main_v4
  let main_v6 : IVec S256x1 1 := andi main_v3 main_v5
  let main_c_1 : IVec S_ 32 := constantI S_ 32 0#32
  let main_v7 : IVec S256x1 32 := broadcastInDim S256x1 ![] bcast_S_S256x1 main_c_1
  let main_v8 : IVec S256x1 1 := cmpi .sge main_v1 main_v7
  let main_v9 : IVec S256x1 1 := andi main_v6 main_v8
  let main_c_2 : IVec S_ 32 := constantI S_ 32 16#32
  let main_v10 : IVec S256x1 32 := broadcastInDim S256x1 ![] bcast_S_S256x1 main_c_2
  let main_v11 : IVec S256x1 1 := cmpi .slt main_v1 main_v10
  let main_v12 : IVec S256x1 1 := andi main_v9 main_v11
  let main_v13 : IVec S256x1 1 := cmpi .ne main_v0 main_v1
  let main_v14 : IVec S256x1 1 := andi main_v12 main_v13
  let main_c_3 : IVec S_ 1 := constantI S_ 1 1#1
  let main_v15 : IVec S_ 1 := (fun x v => Host.reduce IntOp.andi x v reducesTo_S256x1_S_d0_1 h_S_) main_v14 main_c_3
  main_v15
-- ==== Pre_top2_ReferenceIdeal.lean ====
abbrev S256x128 : Shape := ⟨2, ![256, 128]⟩
abbrev S128x16 : Shape := ⟨2, ![128, 16]⟩
abbrev S256x2 : Shape := ⟨2, ![256, 2]⟩
abbrev S16x128x256 : Shape := ⟨3, ![16, 128, 256]⟩
abbrev S256x1 : Shape := ⟨2, ![256, 1]⟩
abbrev S_ : Shape := ⟨0, ![]⟩

class Facts : Prop where
  slices_S256x2_S256x1_0_0 : S256x2.Slices ![0, 0] S256x1
  slices_S256x2_S256x1_0_1 : S256x2.Slices ![0, 1] S256x1
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .f32) (main_arg1 : FVec F S128x16 .f32) (main_arg2 : IVec S256x2 32) (main_arg3 : FVec F S16x128x256 .f32) : IVec S_ 1 :=
  let main_v0 : IVec S256x1 32 := (extractStridedSlice S256x1 ![0, 0] · slices_S256x2_S256x1_0_0) main_arg2
  let main_v1 : IVec S256x1 32 := (extractStridedSlice S256x1 ![0, 1] · slices_S256x2_S256x1_0_1) main_arg2
  let main_c : IVec S_ 32 := constantI S_ 32 0#32
  let main_v2 : IVec S256x1 32 := broadcastInDim S256x1 ![] bcast_S_S256x1 main_c
  let main_v3 : IVec S256x1 1 := cmpi .sge main_v0 main_v2
  let main_c_0 : IVec S_ 32 := constantI S_ 32 16#32
  let main_v4 : IVec S256x1 32 := broadcastInDim S256x1 ![] bcast_S_S256x1 main_c_0
  let main_v5 : IVec S256x1 1 := cmpi .slt main_v0 main_v4
  let main_v6 : IVec S256x1 1 := andi main_v3 main_v5
  let main_c_1 : IVec S_ 32 := constantI S_ 32 0#32
  let main_v7 : IVec S256x1 32 := broadcastInDim S256x1 ![] bcast_S_S256x1 main_c_1
  let main_v8 : IVec S256x1 1 := cmpi .sge main_v1 main_v7
  let main_v9 : IVec S256x1 1 := andi main_v6 main_v8
  let main_c_2 : IVec S_ 32 := constantI S_ 32 16#32
  let main_v10 : IVec S256x1 32 := broadcastInDim S256x1 ![] bcast_S_S256x1 main_c_2
  let main_v11 : IVec S256x1 1 := cmpi .slt main_v1 main_v10
  let main_v12 : IVec S256x1 1 := andi main_v9 main_v11
  let main_v13 : IVec S256x1 1 := cmpi .ne main_v0 main_v1
  let main_v14 : IVec S256x1 1 := andi main_v12 main_v13
  let main_c_3 : IVec S_ 1 := constantI S_ 1 1#1
  let main_v15 : IVec S_ 1 := (fun x v => Host.reduce IntOp.andi x v reducesTo_S256x1_S_d0_1 h_S_) main_v14 main_c_3
  main_v15
-- ==== Kernel.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S32x256 : Shape := ⟨2, ![32, 256]⟩
abbrev S256x256 : Shape := ⟨2, ![256, 256]⟩
abbrev S7x32x256 : Shape := ⟨3, ![7, 32, 256]⟩
abbrev S7 : Shape := ⟨1, ![7]⟩
abbrev S_ : Shape := ⟨0, ![]⟩
abbrev S256x16 : Shape := ⟨2, ![256, 16]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S1 : Shape := ⟨1, ![1]⟩
abbrev S1x32x256 : Shape := ⟨3, ![1, 32, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x2, .i32⟩
  | .hbm, ⟨3, _⟩ => ⟨S2x128x256, .f32⟩
  | .hbm, ⟨4, _⟩ => ⟨S32x256, .f32⟩
  | .local _ .vmem, ⟨0, _⟩ => ⟨S256x128, .f32⟩
  | .local _ .vmem, ⟨1, _⟩ => ⟨S128x16, .f32⟩
  | .local _ .vmem, ⟨2, _⟩ => ⟨S256x2, .i32⟩
  | .local _ .vmem, ⟨3, _⟩ => ⟨S2x128x256, .f32⟩
  | .local _ .vmem, ⟨4, _⟩ => ⟨S32x256, .f32⟩
  | .local _ .vmem, ⟨5, _⟩ => ⟨S256x256, .f32⟩
  | .local _ .vmem, ⟨6, _⟩ => ⟨S7x32x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_62 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v112 : BitVec 32 := Scalar.addi v2 c1_i32_62
  let c8_i32_63 : BitVec 32 := 8#32
  let v113 : BitVec 32 := Scalar.remsi v112 c8_i32_63
  let c32_i32 : BitVec 32 := 32#32
  let v114 : BitVec 32 := Scalar.muli v113 c32_i32
  let c0_i32_71 : BitVec 32 := 0#32
  ![v114.toNat, 0]
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_62 : BitVec 32 := 1#32
  let v112 : BitVec 32 := Scalar.addi v2 c1_i32_62
  let c8_i32_63 : BitVec 32 := 8#32
  let v113 : BitVec 32 := Scalar.remsi v112 c8_i32_63
  let c1_i32_67 : BitVec 32 := 1#32
  let v115 : BitVec 32 := Scalar.muli v113 c1_i32_67
  let v116 : BitVec 32 := Scalar.addi c0_i32_68 v115
  v116.toNat
def k0_dev9 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_72 : BitVec 32 := 2#32
  let v124 : BitVec 32 := Scalar.addi v2 c2_i32_72
  let c8_i32_73 : BitVec 32 := 8#32
  let v125 : BitVec 32 := Scalar.remsi v124 c8_i32_73
  let c1_i32_78 : BitVec 32 := 1#32
  let v127 : BitVec 32 := Scalar.muli v125 c1_i32_78
  let v128 : BitVec 32 := Scalar.addi c0_i32_79 v127
  v128.toNat
def k0_dev10 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_83 : BitVec 32 := 3#32
  let v136 : BitVec 32 := Scalar.addi v2 c3_i32_83
  let c8_i32_84 : BitVec 32 := 8#32
  let v137 : BitVec 32 := Scalar.remsi v136 c8_i32_84
  let c1_i32_89 : BitVec 32 := 1#32
  let v139 : BitVec 32 := Scalar.muli v137 c1_i32_89
  let v140 : BitVec 32 := Scalar.addi c0_i32_90 v139
  v140.toNat
def k0_dev11 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_94 : BitVec 32 := 4#32
  let v148 : BitVec 32 := Scalar.addi v2 c4_i32_94
  let c8_i32_95 : BitVec 32 := 8#32
  let v149 : BitVec 32 := Scalar.remsi v148 c8_i32_95
  let c1_i32_100 : BitVec 32 := 1#32
  let v151 : BitVec 32 := Scalar.muli v149 c1_i32_100
  let v152 : BitVec 32 := Scalar.addi c0_i32_101 v151
  v152.toNat
def k0_dev12 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_105 : BitVec 32 := 5#32
  let v160 : BitVec 32 := Scalar.addi v2 c5_i32_105
  let c8_i32_106 : BitVec 32 := 8#32
  let v161 : BitVec 32 := Scalar.remsi v160 c8_i32_106
  let c1_i32_111 : BitVec 32 := 1#32
  let v163 : BitVec 32 := Scalar.muli v161 c1_i32_111
  let v164 : BitVec 32 := Scalar.addi c0_i32_112 v163
  v164.toNat
def k0_dev13 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_116 : BitVec 32 := 6#32
  let v172 : BitVec 32 := Scalar.addi v2 c6_i32_116
  let c8_i32_117 : BitVec 32 := 8#32
  let v173 : BitVec 32 := Scalar.remsi v172 c8_i32_117
  let c1_i32_122 : BitVec 32 := 1#32
  let v175 : BitVec 32 := Scalar.muli v173 c1_i32_122
  let v176 : BitVec 32 := Scalar.addi c0_i32_123 v175
  v176.toNat
def k0_dev14 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_127 : BitVec 32 := 7#32
  let v184 : BitVec 32 := Scalar.addi v2 c7_i32_127
  let c8_i32_128 : BitVec 32 := 8#32
  let v185 : BitVec 32 := Scalar.remsi v184 c8_i32_128
  let c1_i32_133 : BitVec 32 := 1#32
  let v187 : BitVec 32 := Scalar.muli v185 c1_i32_133
  let v188 : BitVec 32 := Scalar.addi c0_i32_134 v187
  v188.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_138 : BitVec 32 := 32#32
  let v196 : BitVec 32 := Scalar.muli v2 c32_i32_138
  let v197 : Index := Scalar.indexCast v196
  let c0_139 : Index := 0#32
  ![v197.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x2 : Shape := ⟨2, ![256, 2]⟩
abbrev S16x128x256 : Shape := ⟨3, ![16, 128, 256]⟩
abbrev S256x16 : Shape := ⟨2, ![256, 16]⟩
abbrev S_ : Shape := ⟨0, ![]⟩
abbrev S256 : Shape := ⟨1, ![256]⟩
abbrev S256x1 : Shape := ⟨2, ![256, 1]⟩
abbrev S256x128x256 : Shape := ⟨3, ![256, 128, 256]⟩
abbrev S256x256 : Shape := ⟨2, ![256, 256]⟩

abbrev nBuf : Space → Nat
  | .hbm => 87
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x2, .i32⟩
  | .hbm, ⟨3, _⟩ => ⟨S16x128x256, .f32⟩
  | .hbm, ⟨4, _⟩ => ⟨S256x16, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x16, .f32⟩
  | .hbm, ⟨9, _⟩ => ⟨S256x16, .f32⟩
  | .hbm, ⟨10, _⟩ => ⟨S256x16, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x16, .f32⟩
  | .hbm, ⟨15, _⟩ => ⟨S256x16, .f32⟩
  | .hbm, ⟨16, _⟩ => ⟨S256x1, .i32⟩
  | .hbm, ⟨17, _⟩ => ⟨S256, .i32⟩
  | .hbm, ⟨18, _⟩ => ⟨S256x1, .i32⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S256x1, .i32⟩
  | .hbm, ⟨37, _⟩ => ⟨S256x2, .i32⟩
  | .hbm, ⟨38, _⟩ => ⟨S256, .f32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S256x1, .i32⟩
  | .hbm, ⟨55, _⟩ => ⟨S256x2, .i32⟩
  | .hbm, ⟨56, _⟩ => ⟨S256, .f32⟩
  | .hbm, ⟨57, _⟩ => ⟨S256, .f32⟩
  | .hbm, ⟨58, _⟩ => ⟨S_, .i32⟩
  | .hbm, ⟨59, _⟩ => ⟨S256, .i32⟩
  | .hbm, ⟨60, _⟩ => ⟨S256, .i1⟩
  | .hbm, ⟨61, _⟩ => ⟨S_, .i32⟩
  | .hbm, ⟨62, _⟩ => ⟨S256, .i32⟩
  | .hbm, ⟨63, _⟩ => ⟨S256, .i32⟩
  | .hbm, ⟨64, _⟩ => ⟨S256, .i32⟩
  | .hbm, ⟨65, _⟩ => ⟨S256x1, .i32⟩
  | .hbm, ⟨66, _⟩ => ⟨S256x128x256, .f32⟩
  | .hbm, ⟨67, _⟩ => ⟨S256x256, .f32⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S256x1, .i32⟩
  | .hbm, ⟨76, _⟩ => ⟨S256x128x256, .f32⟩
  | .hbm, ⟨77, _⟩ => ⟨S256x256, .f32⟩
  | .hbm, ⟨78, _⟩ => ⟨S256, .f32⟩
  | .hbm, ⟨79, _⟩ => ⟨S256x1, .f32⟩
  | .hbm, ⟨80, _⟩ => ⟨S256x256, .f32⟩
  | .hbm, ⟨81, _⟩ => ⟨S256x256, .f32⟩
  | .hbm, ⟨82, _⟩ => ⟨S256, .f32⟩
  | .hbm, ⟨83, _⟩ => ⟨S256x1, .f32⟩
  | .hbm, ⟨84, _⟩ => ⟨S256x256, .f32⟩
  | .hbm, ⟨85, _⟩ => ⟨S256x256, .f32⟩
  | .hbm, ⟨86, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.KernelIdeal.Protocol.lean ====
/-
# The exchange among the eight devices: cells, contents, schedule

Every device computes a partial result of 256 rows, keeps the 32 rows it owns and copies each of the other seven
blocks of 32 rows to the device that owns it. Copy `i` (of 0 … 6) of device `c` goes to device `rot i c`, into the
slot `i` of that device's landing buffer; so slot `i` of device `c` is filled by the device whose copy `i` goes to `c`,
which is `rot (rev i) c`.

Per device there are fifteen semaphores. The barrier takes seven units, one from each of the other devices; the unit
from `rot i c` hands over the slot of that device into which `c`'s copy `i` goes. The send semaphore `i` is raised
when copy `i` has left and hands the copied rows back. The receive semaphore `i` is raised when slot `i` has
been filled and hands the slot over, holding the rows of the sender's partial result which the owner of the slot owns.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's part and the exchange's (duties named by `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Who sends to whom -/

set_option backward.proofsInPublic true in
/-- The device `i + 1` places after `c`. -/
def rot (i : Fin 7) (c : Dev nD) : Dev nD := ⟨(c.val + i.val + 1) % 8, Nat.mod_lt _ (by decide)⟩
set_option backward.proofsInPublic true in
/-- `rot (rev i)` undoes `rot i`. -/
def rev (i : Fin 7) : Fin 7 := ⟨6 - i.val, by omega⟩

theorem rev_rev (i : Fin 7) : rev (rev i) = i := by revert i; decide
theorem rot_rev (i : Fin 7) (c : Dev nD) : rot (rev i) (rot i c) = c := by revert i c; decide
theorem rot_rev' (i : Fin 7) (c : Dev nD) : rot i (rot (rev i) c) = c := by revert i c; decide
theorem rot_ne (i : Fin 7) (c : Dev nD) : rot i c ≠ c := by revert i c; decide
theorem rot_inj {i j : Fin 7} {c : Dev nD} (h : rot i c = rot j c) : i = j := by revert i j c; decide
theorem exists_rot (c d : Dev nD) (h : d ≠ c) : ∃ i : Fin 7, d = rot i c := by revert c d; decide

/-- `rot i` as a bijection of the devices. -/
def rotEquiv (i : Fin 7) : Dev nD ≃ Dev nD := ⟨rot i, rot (rev i), rot_rev i, rot_rev' i⟩
/-- `rev` as a bijection of the places. -/
def revEquiv : Fin 7 ≃ Fin 7 := ⟨rev, rev, rev_rev, rev_rev⟩

/-! ## The views and the cells -/

abbrev xM : Memref sig .tc .vmem S256x128 .f32 := Memref.whole cc0_stg0_0
abbrev wM : Memref sig .tc .vmem S128x16 .f32 := Memref.whole cc0_stg1_0
abbrev iM : Memref sig .tc .vmem S256x2 .i32 := Memref.whole cc0_stg2_0
abbrev eM : Memref sig .tc .vmem S2x128x256 .f32 := Memref.whole cc0_stg3_0
abbrev oM : Memref sig .tc .vmem S32x256 .f32 := Memref.whole cc0_stg4_0
abbrev pM : Memref sig .tc .vmem S256x256 .f32 := Memref.whole cc0_scratch0
abbrev rM : Memref sig .tc .vmem S7x32x256 .f32 := Memref.whole cc0_scratch1

theorem inbSem (i : Fin 7) : ∀ a, (![i.val] : Fin 1 → Nat) a + S1.size a ≤ S7.size a := by
  revert i; decide
theorem inbSlot (i : Fin 7) : ∀ a, (![i.val, 0, 0] : Fin 3 → Nat) a + S1x32x256.size a ≤ S7x32x256.size a := by
  revert i; decide

/-- The rows of device `c`'s partial result that its copy `i` takes. -/
abbrev rowRect (c : Dev nD) (i : Fin 7) : Rect S256x256 :=
  Rect.unit (s := S256x256) (k0_off1 c (BitVec.ofNat 32 (1 + i.val))) S32x256.size (k0_off1_inb c i)
abbrev rowM (c : Dev nD) (i : Fin 7) : Memref sig .tc .vmem S32x256 .f32 := pM.slice (rowRect c i) (fun _ => rfl)
/-- The rows of its partial result that device `c` owns itself. -/
abbrev ownRect (c : Dev nD) : Rect S256x256 := Rect.unit (s := S256x256) (k0_off2 c) S32x256.size (k0_off2_inb c)
/-- Slot `i` of the landing buffer. -/
abbrev slotRect (i : Fin 7) : Rect S7x32x256 := Rect.unit (s := S7x32x256) ![i.val, 0, 0] S1x32x256.size (inbSlot i)
abbrev slotM (i : Fin 7) : Memref sig .tc .vmem S32x256 .f32 :=
  (rM.slice (slotRect i) (fun _ => rfl)).squeeze S32x256 squeezes_S1x32x256_S32x256

abbrev barS : Sem sig := (SemArray.scalar (sig.barrier 0 rfl) : Sems sig S_).sem
abbrev sendS (i : Fin 7) : DmaSem sig :=
  ((cc0_scratch2.slice (Rect.unit (s := S7) ![i.val] S1.size (inbSem i)) : DmaSems sig S1).squeeze S_ squeezes_S1_S_).sem
abbrev recvS (i : Fin 7) : DmaSem sig :=
  ((cc0_scratch3.slice (Rect.unit (s := S7) ![i.val] S1.size (inbSem i)) : DmaSems sig S1).squeeze S_ squeezes_S1_S_).sem

abbrev barCell (c : Dev nD) : GSem nD τ sig := ((c : Thread nD τ), .reg barS)
abbrev sendCell (c : Dev nD) (i : Fin 7) : GSem nD τ sig := ((c : Thread nD τ), .dma (sendS i))
abbrev recvCell (c : Dev nD) (i : Fin 7) : GSem nD τ sig := ((c : Thread nD τ), .dma (recvS i))

theorem sendS_inj : ∀ {i j : Fin 7}, sendS i = sendS j → i = j := by decide
theorem recvS_inj : ∀ {i j : Fin 7}, recvS i = recvS j → i = j := by decide
theorem sendS_ne_recvS : ∀ i j : Fin 7, sendS i ≠ recvS j := by decide

/-- The credit of one copy of 32 rows. -/
abbrev N : ℕ := (slotM 0).view.dmaCredit
theorem N_pos : 0 < N := View.dmaCredit_pos _ (by decide)

/-- A device's semaphores as this proof indexes them: its send and its receive semaphores, -/
abbrev osem : Fin 7 ⊕ Fin 7 → SemLoc sig := Sum.elim (fun i => .dma (sendS i)) (fun i => .dma (recvS i))
/-- and the barrier before them. -/
abbrev csem : Unit ⊕ (Fin 7 ⊕ Fin 7) → SemLoc sig := Sum.elim (fun _ => .reg barS) osem
abbrev Cix : Type := Unit ⊕ (Fin 7 ⊕ Fin 7)
abbrev kcell (ck : Dev nD × Cix) : GSem nD τ sig := ((ck.1 : Thread nD τ), csem ck.2)

/-! ## The rows and the slots tile the two buffers -/

theorem mem_rows (c : Dev nD) (i : Fin 7) (j : S256x256.Idx) :
    j ∈ (rowM c i).view.set ↔ (j 0).val / 32 = (rot i c).val := by
  rw [show (rowM c i).view.set = (rowRect c i).set from View.set_slice_whole _ _, Rect.mem_set_unit, k0_off1_eq]
  have h0 : (j 0).val < 256 := (j 0).isLt
  have h1 : (j 1).val < 256 := (j 1).isLt
  constructor
  · intro h
    have : 32 * ((c.val + i.val + 1) % 8) ≤ (j 0).val ∧ (j 0).val < 32 * ((c.val + i.val + 1) % 8) + 32 := h 0
    show _ = (c.val + i.val + 1) % 8
    omega
  · intro h a
    have h' : (j 0).val / 32 = (c.val + i.val + 1) % 8 := h
    fin_cases a
    · show 32 * ((c.val + i.val + 1) % 8) ≤ (j 0).val ∧ (j 0).val < 32 * ((c.val + i.val + 1) % 8) + 32
      omega
    · show 0 ≤ (j 1).val ∧ (j 1).val < 0 + 256
      omega

theorem mem_own (c : Dev nD) (j : S256x256.Idx) :
    j ∈ (ownRect c).set ↔ (j 0).val / 32 = c.val := by
  rw [Rect.mem_set_unit, k0_off2_eq]
  have h0 : (j 0).val < 256 := (j 0).isLt
  have h1 : (j 1).val < 256 := (j 1).isLt
  constructor
  · intro h
    have : 32 * c.val ≤ (j 0).val ∧ (j 0).val < 32 * c.val + 32 := h 0
    omega
  · intro h a
    fin_cases a
    · show 32 * c.val ≤ (j 0).val ∧ (j 0).val < 32 * c.val + 32
      omega
    · show 0 ≤ (j 1).val ∧ (j 1).val < 0 + 256
      omega

theorem mem_slot (i : Fin 7) (j : S7x32x256.Idx) : j ∈ (slotM i).view.set ↔ (j 0).val = i.val := by
  rw [show (slotM i).view.set = (slotRect i).set from (View.set_reshape _ _).trans (View.set_slice_whole _ _), Rect.mem_set_unit]
  have h0 : (j 0).val < 7 := (j 0).isLt
  have h1 : (j 1).val < 32 := (j 1).isLt
  have h2 : (j 2).val < 256 := (j 2).isLt
  constructor
  · intro h
    have : i.val ≤ (j 0).val ∧ (j 0).val < i.val + 1 := h 0
    omega
  · intro h a
    fin_cases a
    · show i.val ≤ (j 0).val ∧ (j 0).val < i.val + 1
      omega
    · show 0 ≤ (j 1).val ∧ (j 1).val < 0 + 32
      omega
    · show 0 ≤ (j 2).val ∧ (j 2).val < 0 + 256
      omega

theorem rows_disjoint (c : Dev nD) : ∀ i ∈ (Finset.univ : Finset (Fin 7)), ∀ k ∈ (Finset.univ : Finset (Fin 7)), i ≠ k →
    Disjoint (rowM c i).view.set (rowM c k).view.set := by
  intro i _ k _ hik
  rw [Finset.disjoint_left]
  intro j hi hk
  rw [mem_rows] at hi hk
  exact hik (rot_inj (Fin.ext (hi.symm.trans hk)))
theorem own_disjoint (c : Dev nD) :
    Disjoint (ownRect c).set ((Finset.univ : Finset (Fin 7)).biUnion fun i => (rowM c i).view.set) := by
  rw [Finset.disjoint_left]
  intro j hi hk
  obtain ⟨i, -, hk⟩ := Finset.mem_biUnion.mp hk
  have hk := (mem_rows c i j).mp hk
  have hi := (mem_own c j).mp hi
  exact rot_ne i c (Fin.ext (hk.symm.trans hi))
theorem rows_cover (c : Dev nD) :
    (ownRect c).set ∪ ((Finset.univ : Finset (Fin 7)).biUnion fun i => (rowM c i).view.set) = (Finset.univ : Finset S256x256.Idx) := by
  ext j
  refine ⟨fun _ => Finset.mem_univ _, fun _ => ?_⟩
  have h0 : (j 0).val < 256 := (j 0).isLt
  by_cases h : (j 0).val / 32 = c.val
  · exact Finset.mem_union_left _ ((mem_own c j).mpr h)
  · obtain ⟨i, hi⟩ := exists_rot c ⟨(j 0).val / 32, by show _ < 8; omega⟩ (fun e => h (congrArg Fin.val e))
    exact Finset.mem_union_right _ (Finset.mem_biUnion.mpr ⟨i, Finset.mem_univ _, (mem_rows c i j).mpr (congrArg Fin.val hi)⟩)
theorem slots_disjoint : ∀ i ∈ (Finset.univ : Finset (Fin 7)), ∀ k ∈ (Finset.univ : Finset (Fin 7)), i ≠ k →
    Disjoint (slotM i).view.set (slotM k).view.set := by
  intro i _ k _ hik
  rw [Finset.disjoint_left]
  intro j hi hk
  have hi := (mem_slot i j).mp hi
  have hk := (mem_slot k j).mp hk
  exact hik (Fin.ext (hi.symm.trans hk))
theorem slots_cover :
    ((Finset.univ : Finset (Fin 7)).biUnion fun i => (slotM i).view.set) = (Finset.univ : Finset S7x32x256.Idx) := by
  ext j
  refine ⟨fun _ => Finset.mem_univ _, fun _ => ?_⟩
  have h0 : (j 0).val < 7 := (j 0).isLt
  exact Finset.mem_biUnion.mpr ⟨⟨(j 0).val, h0⟩, Finset.mem_univ _, (mem_slot _ j).mpr rfl⟩

/-! ## Contents -/

/-- The staged blocks of device `c`: the tokens, the router's weights, the chosen experts, its own two experts. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def istg (c : Dev nD) : (cc0_stg2_0 : Ref sig .tc).ty.Contents (Elt F) :=
  (win0_2.blk (0 : Fin 1)).view.read (Elt F) (m ((c : Thread nD τ).loc main_arg2))
def estg (c : Dev nD) : (cc0_stg3_0 : Ref sig .tc).ty.Contents (Elt F) :=
  (win0_3.blk (0 : Fin 1)).view.read (Elt F) (m ((c : Thread nD τ).loc main_arg3))

/-- A device's position on the mesh, as the program computes it. -/
abbrev place (c : Dev nD) : BitVec 32 := Scalar.remsi (Scalar.divsi (Dev.word c) 1#32) 8#32
/-- A row of expert numbers, 0 to 15, for each token. -/
abbrev numbers : IVec S256x16 32 := iota .tc S256x16 32 [1] iota_S256x16_d1_w32

/-- The first (second) chosen expert of each token, as loaded. -/
abbrev first (ix : (cc0_stg2_0 : Ref sig .tc).ty.Contents (Elt F)) : Vec F S256x1 .i32 :=
  iM.view.readAt (Elt F) (Rect.unit (s := S256x2) ![0, 0] S256x1.size inb_S256x2_S256x1_0_0).toLoadRect ix
abbrev second (ix : (cc0_stg2_0 : Ref sig .tc).ty.Contents (Elt F)) : Vec F S256x1 .i32 :=
  iM.view.readAt (Elt F) (Rect.unit (s := S256x2) ![0, 1] S256x1.size inb_S256x2_S256x1_0_1).toLoadRect ix
/-- The matrix of a device's first (second) expert, as loaded. -/
abbrev expert0 (ex : (cc0_stg3_0 : Ref sig .tc).ty.Contents (Elt F)) : Vec F S1x128x256 .f32 :=
  eM.view.readAt (Elt F) (Rect.unit (s := S2x128x256) ![0, 0, 0] S1x128x256.size inb_S2x128x256_S1x128x256_0_0_0).toLoadRect ex
abbrev expert1 (ex : (cc0_stg3_0 : Ref sig .tc).ty.Contents (Elt F)) : Vec F S1x128x256 .f32 :=
  eM.view.readAt (Elt F) (Rect.unit (s := S2x128x256) ![1, 0, 0] S1x128x256.size inb_S2x128x256_S1x128x256_1_0_0).toLoadRect ex

/-- The partial result of the device at place `v` of the mesh from its loaded operands: the weighted products of the tokens with its two
    experts. -/
def partialOf (v : BitVec 32) (x : Vec F S256x128 .f32) (w : Vec F S128x16 .f32) (a b : Vec F S256x1 .i32) (u₀ u₁ : Vec F S1x128x256 .f32) :
    FVec F S256x256 .f32 :=
  k0_pay12 (k0_pay1 x)
    (k0_pay8 v (k0_pay1 x) (k0_pay2 x w) (k0_pay3 a) (k0_pay4 b) numbers (k0_pay5 x w a) (k0_pay6 b) u₀)
    (k0_pay9 v (k0_pay3 a) (k0_pay4 b)) (k0_pay10 v (k0_pay2 x w) numbers (k0_pay5 x w a) (k0_pay6 b)) k0_pay11 u₁

/-- Device `c`'s partial result. -/
def part (c : Dev nD) : (cc0_scratch0 : Ref sig .tc).ty.Contents (Elt F) :=
  partialOf (place c) (xstg m c) (wstg m c) (first (istg m c)) (second (istg m c)) (expert0 (estg m c)) (expert1 (estg m c))

/-- The rows of a partial result that device `c` owns. -/
abbrev rowsAt (c : Dev nD) (f : (cc0_scratch0 : Ref sig .tc).ty.Contents (Elt F)) : Vec F S32x256 .f32 :=
  pM.view.readAt (Elt F) (ownRect c).toLoadRect f

/-- What slot `i` of device `c` receives: the rows `c` owns of the sender's partial result. -/
def got (c : Dev nD) (i : Fin 7) : Vec F S32x256 .f32 := rowsAt c (part m (rot (rev i) c))

/-- The result block of device `c`: its own rows and the seven received blocks, added from the left. -/
def outAt (c : Dev nD) : (cc0_stg4_0 : Ref sig .tc).ty.Contents (Elt F) :=
  addf (addf (addf (addf (addf (addf (addf (rowsAt c (part m c) : FVec F S32x256 .f32) (got m c 0)) (got m c 1)) (got m c 2)) (got m c 3))
    (got m c 4)) (got m c 5)) (got m c 6)

theorem read_unit_congr {o o' : Fin S256x256.rank → ℕ} (e : o = o') (h : ∀ a, o a + S32x256.size a ≤ S256x256.size a)
    (h' : ∀ a, o' a + S32x256.size a ≤ S256x256.size a) (f : (cc0_scratch0 : Ref sig .tc).ty.Contents (Elt F)) :
    ((pM.view.slice (Rect.unit (s := S256x256) o S32x256.size h)).read (Elt F) f : Vec F S32x256 .f32)
      = (pM.view.slice (Rect.unit (s := S256x256) o' S32x256.size h')).read (Elt F) f := by
  subst e; rfl

/-- The rows copy `i` takes are the rows its target owns. -/
theorem read_rowM (c : Dev nD) (i : Fin 7) (f : (cc0_scratch0 : Ref sig .tc).ty.Contents (Elt F)) :
    ((rowM c i).view.read (Elt F) f : Vec F S32x256 .f32) = rowsAt (rot i c) f :=
  read_unit_congr ((k0_off1_eq c i).trans (k0_off2_eq (rot i c)).symm) (k0_off1_inb c i) (k0_off2_inb (rot i c)) f

end Cert.KernelIdeal.Exchange

end
-- ==== Proof.KernelIdeal.Schedule.lean ====
/-
# The exchange among the eight devices: the schedule, the debts and the levels

One round. The barrier cell of device `c` has seven duties, the duty `i` paid by `rot i c`; the send and the receive
cell `i` have one duty each, named `i`. A device starts owing one unit to each other device's barrier and one block to the
receive cell of each of its seven copies. Levels: the barrier below the receive cells; all else at the bottom.
-/
module

public import proofs.«01_k».proof.Proof.KernelIdeal.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers' parts -/

/-- Slot `i` of device `c`, -/
def slotPts (c : Dev nD) (i : Fin 7) (f : Buf (Elt F) ((slotM i).view.loc (c : Thread nD τ))) : sProp 𝕄 :=
  (slotM i).view.loc (c : Thread nD τ) ↦[(slotM i).view.set]{fullShare} f
/-- the rows copy `i` of device `c` takes, -/
def rowPts (c : Dev nD) (i : Fin 7) (f : Buf (Elt F) ((rowM c i).view.loc (c : Thread nD τ))) : sProp 𝕄 :=
  (rowM c i).view.loc (c : Thread nD τ) ↦[(rowM c i).view.set]{fullShare} f
/-- and the rows it owns. -/
def ownPts (c : Dev nD) (f : Buf (Elt F) ((c : Thread nD τ).loc cc0_scratch0)) : sProp 𝕄 :=
  ((c : Thread nD τ).loc cc0_scratch0) ↦[(ownRect c).set]{fullShare} f

instance slotPts_storable (c : Dev nD) (i : Fin 7) (f) : BI.Storable (upEmb : UEmb _ 𝕄) (slotPts (F := F) c i f) := by
  unfold slotPts; infer_instance
instance rowPts_storable (c : Dev nD) (i : Fin 7) (f) : BI.Storable (upEmb : UEmb _ 𝕄) (rowPts (F := F) c i f) := by
  unfold rowPts; infer_instance

/-- The partial result's buffer is the owned rows and the seven copies' rows. -/
theorem rows_split (c : Dev nD) (f : Buf (Elt F) ((c : Thread nD τ).loc cc0_scratch0)) :
    (((c : Thread nD τ).loc cc0_scratch0) ↦{fullShare} f : sProp 𝕄)
      = iprop(ownPts c f ∗ bigSep Finset.univ fun i : Fin 7 => rowPts c i f) := by
  have hU := congrArg (fun S : Finset S256x256.Idx => (((c : Thread nD τ).loc cc0_scratch0) ↦[S]{fullShare} f : sProp 𝕄)) (rows_cover c)
  have u := pointsTo_union (Ix := Unit) (Name := ℕ) (U := UU) (Lvl := ℕ) (ℓ := (c : Thread nD τ).loc cc0_scratch0) (q := fullShare) (f := f) (own_disjoint c)
  have e := BI.equiv_iff.mp ⟨u.1, u.2⟩
  have e' := pointsTo_biUnion (Ix := Unit) (Name := ℕ) (U := UU) (Lvl := ℕ) (ℓ := (c : Thread nD τ).loc cc0_scratch0) (q := fullShare) (f := f)
    Finset.univ (fun i => (rowM c i).view.set) (rows_disjoint c)
  exact hU.symm.trans (e.trans (congrArg (fun X : sProp 𝕄 => iprop(ownPts c f ∗ X)) e'))

/-- The landing buffer is its seven slots. -/
theorem slots_split (c : Dev nD) (f : Buf (Elt F) ((c : Thread nD τ).loc cc0_scratch1)) :
    (((c : Thread nD τ).loc cc0_scratch1) ↦{fullShare} f : sProp 𝕄) = bigSep Finset.univ fun i : Fin 7 => slotPts c i f := by
  have e := pointsTo_biUnion (Ix := Unit) (Name := ℕ) (U := UU) (Lvl := ℕ) (ℓ := (c : Thread nD τ).loc cc0_scratch1) (q := fullShare) (f := f)
    Finset.univ (fun i => (slotM i).view.set) slots_disjoint
  have hU := congrArg (fun S : Finset S7x32x256.Idx => (((c : Thread nD τ).loc cc0_scratch1) ↦[S]{fullShare} f : sProp 𝕄)) slots_cover
  exact hU.symm.trans e

/-- Seven slots, whatever they hold, are the landing buffer. -/
theorem slots_join (c : Dev nD) :
    (bigSep Finset.univ fun i : Fin 7 => (iprop(∃ f, slotPts c i f) : sProp 𝕄))
      ⊢ iprop(∃ f, ((c : Thread nD τ).loc cc0_scratch1) ↦{fullShare} f) := by
  refine (BI.bigSep_exists_pi Finset.univ (fun (i : Fin 7) (f : Buf (Elt F) ((c : Thread nD τ).loc cc0_scratch1)) => (slotPts c i f : sProp 𝕄))).trans ?_
  refine BI.Laws.exists_elim fun fs => ?_
  refine (pointsTo_biUnion_join (Ix := Unit) (Name := ℕ) (U := UU) (Lvl := ℕ) (ℓ := (c : Thread nD τ).loc cc0_scratch1) (q := fullShare)
    Finset.univ (fun i => (slotM i).view.set) fs (fs 0) slots_disjoint).trans ?_
  iintro ⟨%g, -, Hg⟩
  iexists g
  have hU := congrArg (fun S : Finset S7x32x256.Idx => (((c : Thread nD τ).loc cc0_scratch1) ↦[S]{fullShare} g : sProp 𝕄)) slots_cover
  iapply (Entails.of_eq hU) $$ Hg

/-! ## What each unit or copy hands over -/

/-- The unit `rot i c` pays to `c`'s barrier: the slot of `rot i c` into which `c`'s copy `i` goes, and that the receive
    cell of that slot is at round 0. -/
def barPay (c : Dev nD) (i : Fin 7) : sProp 𝕄 :=
  iprop((∃ f, slotPts (rot i c) i f) ∗ reached ER (recvCell (rot i c) i) 0)
/-- The copy into slot `i` of `c`: the slot, holding the rows `c` owns of the sender's partial result. -/
def recvPay (c : Dev nD) (i : Fin 7) : sProp 𝕄 :=
  iprop(∃ f, ⌜((slotM i).view.read (Elt F) f : Vec F S32x256 .f32) = got m c i⌝ ∗ slotPts c i f)
/-- Copy `i` of `c` sent: the rows it took. -/
def sendPay (c : Dev nD) (i : Fin 7) : sProp 𝕄 := rowPts c i (part m c)

abbrev IsBar (g : GSem nD τ sig) : Prop := g.1.2 = .tc ∧ g.2 = .reg barS

/-- The schedule. -/
def sched : Rounds.Schedule (GSem nD τ sig) (Fin 7) 𝕄 where
  duties g r := if r = 0 ∧ g.1.2 = .tc then
      (if g.2 = .reg barS then Finset.univ else Finset.univ.filter fun i => g.2 = .dma (sendS i) ∨ g.2 = .dma (recvS i))
    else ∅
  unitless _ := False
  amount g _ _ := if g.2 = .reg barS then 1 else N
  payload g _ i :=
    if g.2 = .reg barS then barPay g.1.1 i
    else if g.2 = .dma (recvS i) then recvPay m g.1.1 i
    else if g.2 = .dma (sendS i) then sendPay m g.1.1 i
    else iprop(emp)
  amount_pos g _ _ _ := by
    by_cases h : g.2 = .reg barS
    · rw [if_pos h]; exact Nat.one_pos
    · rw [if_neg h]; exact N_pos

instance sched_payload_storable (g : GSem nD τ sig) (r : ℕ) (i : Fin 7) :
    BI.Storable (upEmb : UEmb _ 𝕄) ((sched (F := F) m).payload g r i) := by
  show BI.Storable upEmb (if g.2 = .reg barS then barPay g.1.1 i else if g.2 = .dma (recvS i) then recvPay m g.1.1 i
    else if g.2 = .dma (sendS i) then sendPay m g.1.1 i else iprop(emp))
  unfold barPay recvPay sendPay
  (repeat' split) <;> infer_instance

section Sched
variable (c : Dev nD) (i : Fin 7)

theorem send_ne_bar : (SemLoc.dma (sendS i) : SemLoc sig) ≠ .reg barS := fun h => by cases h
theorem recv_ne_bar : (SemLoc.dma (recvS i) : SemLoc sig) ≠ .reg barS := fun h => by cases h
theorem send_ne_recv (k : Fin 7) : (SemLoc.dma (sendS i) : SemLoc sig) ≠ .dma (recvS k) :=
  fun h => sendS_ne_recvS i k (SemLoc.dma.inj h)

theorem duties_bar : (sched (F := F) m).duties (barCell c) 0 = Finset.univ := by
  dsimp only [sched]; rw [if_pos ⟨rfl, rfl⟩, if_pos rfl]
theorem duties_send : (sched (F := F) m).duties (sendCell c i) 0 = {i} := by
  dsimp only [sched]; rw [if_pos ⟨rfl, rfl⟩, if_neg (send_ne_bar i)]
  ext k
  simp only [Finset.mem_filter, Finset.mem_univ, true_and, Finset.mem_singleton]
  constructor
  · rintro (h | h)
    · exact (sendS_inj (SemLoc.dma.inj h)).symm
    · exact absurd h (send_ne_recv i k)
  · rintro rfl; exact .inl rfl
theorem duties_recv : (sched (F := F) m).duties (recvCell c i) 0 = {i} := by
  dsimp only [sched]; rw [if_pos ⟨rfl, rfl⟩, if_neg (recv_ne_bar i)]
  ext k
  simp only [Finset.mem_filter, Finset.mem_univ, true_and, Finset.mem_singleton]
  constructor
  · rintro (h | h)
    · exact absurd h.symm (send_ne_recv k i)
    · exact (recvS_inj (SemLoc.dma.inj h)).symm
  · rintro rfl; exact .inr rfl
theorem duties_later (g : GSem nD τ sig) : ∀ r, 1 ≤ r → (sched (F := F) m).duties g r = ∅ :=
  fun r hr => by dsimp only [sched]; rw [if_neg fun h => by omega]

theorem amount_bar : (sched (F := F) m).amount (barCell c) 0 i = 1 := by dsimp only [sched]; exact if_pos rfl
theorem amount_send (k : Fin 7) : (sched (F := F) m).amount (sendCell c i) 0 k = N := by dsimp only [sched]; exact if_neg (send_ne_bar i)
theorem amount_recv (k : Fin 7) : (sched (F := F) m).amount (recvCell c i) 0 k = N := by dsimp only [sched]; exact if_neg (recv_ne_bar i)

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c i) 0 = N := by
  unfold Schedule.expect Schedule.amountOf; rw [duties_send, Finset.sum_singleton, amount_send]
theorem expect_recv : (sched (F := F) m).expect (recvCell c i) 0 = N := by
  unfold Schedule.expect Schedule.amountOf; rw [duties_recv, Finset.sum_singleton, amount_recv]

theorem payload_bar : (sched (F := F) m).payload (barCell c) 0 i = barPay c i := by dsimp only [sched]; exact if_pos rfl
theorem payload_send : (sched (F := F) m).payload (sendCell c i) 0 i = sendPay m c i := by
  dsimp only [sched]; rw [if_neg (send_ne_bar i), if_neg (send_ne_recv i i), if_pos rfl]
theorem payload_recv : (sched (F := F) m).payload (recvCell c i) 0 i = recvPay m c i := by
  dsimp only [sched]; rw [if_neg (recv_ne_bar i), if_pos rfl]

/-- The whole round of each cell, no duty taken. -/
theorem rest_bar : bigSep ((sched (F := F) m).duties (barCell c) 0 \ ∅) (fun d => (sched (F := F) m).payload (barCell c) 0 d)
    = bigSep Finset.univ fun d : Fin 7 => barPay (F := F) c d := by
  rw [Finset.sdiff_empty, duties_bar]; exact bigSep_congr fun d _ => payload_bar m c d
theorem rest_send : bigSep ((sched (F := F) m).duties (sendCell c i) 0 \ ∅) (fun d => (sched (F := F) m).payload (sendCell c i) 0 d)
    = sendPay m c i := by
  rw [Finset.sdiff_empty, duties_send, bigSep_singleton, payload_send]
theorem rest_recv : bigSep ((sched (F := F) m).duties (recvCell c i) 0 \ ∅) (fun d => (sched (F := F) m).payload (recvCell c i) 0 d)
    = recvPay m c i := by
  rw [Finset.sdiff_empty, duties_recv, bigSep_singleton, payload_recv]

end Sched

/-! ## Debts and levels -/

/-- The numbers from `n` on: what is still to be done before step `n`. -/
abbrev rest (n : ℕ) : Finset (Fin 7) := Finset.univ.filter fun i => n ≤ i.val
theorem rest_zero : rest 0 = Finset.univ := by decide
theorem rest_seven : rest 7 = ∅ := by decide
theorem rest_step (i : Fin 7) : rest i.val = insert i (rest (i.val + 1)) := by revert i; decide
theorem rest_not_mem (i : Fin 7) : i ∉ rest (i.val + 1) := by revert i; decide

/-- The blocks owed to the receive cells of the copies in `S`; the units owed to the barriers of the devices `rot i c`, `i` in `S`. -/
def Orecv (S : Finset (Fin 7)) (c : Dev nD) : CellTallies nD τ sig Unit := ∑ i ∈ S, tallyAt (recvCell (rot i c) i) () N
def Obar (S : Finset (Fin 7)) (c : Dev nD) : CellTallies nD τ sig Unit := ∑ i ∈ S, tallyAt (barCell (rot i c)) () 1
/-- What device `c` owes at launch. -/
def O₀ (c : Dev nD) : CellTallies nD τ sig Unit := Orecv Finset.univ c + Obar Finset.univ c

theorem Orecv_step (c : Dev nD) (i : Fin 7) :
    Orecv (rest i.val) c = Orecv (rest (i.val + 1)) c + tallyAt (recvCell (rot i c) i) () N := by
  unfold Orecv; rw [rest_step, Finset.sum_insert (rest_not_mem i), add_comm]
theorem Obar_step (c : Dev nD) (i : Fin 7) :
    Obar (rest i.val) c = Obar (rest (i.val + 1)) c + tallyAt (barCell (rot i c)) () 1 := by
  unfold Obar; rw [rest_step, Finset.sum_insert (rest_not_mem i), add_comm]

theorem sum_pos {S : Finset (Fin 7)} {t : Fin 7 → CellTallies nD τ sig Unit} {g : GSem nD τ sig} {u : Unit}
    (h : 0 < (∑ i ∈ S, t i) g u) : ∃ i, 0 < t i g u := by
  by_contra hn
  have hz : ∀ i, t i g u = 0 := fun i => by
    by_contra h0; exact hn ⟨i, Nat.pos_of_ne_zero h0⟩
  have : (∑ i ∈ S, t i) g u = 0 := by
    rw [Finset.sum_apply, Finsupp.finset_sum_apply]
    exact Finset.sum_eq_zero fun i _ => hz i
  omega
theorem Orecv_pos {S : Finset (Fin 7)} {c : Dev nD} {g : GSem nD τ sig} {u : Unit} (h : 0 < Orecv S c g u) :
    ∃ i, g = recvCell (rot i c) i := by
  obtain ⟨i, hi⟩ := sum_pos h
  refine ⟨i, ?_⟩
  by_contra hn
  rw [tallyAt_apply, if_neg (fun h' => hn h'.1)] at hi
  exact Nat.lt_irrefl 0 hi
theorem Obar_pos {S : Finset (Fin 7)} {c : Dev nD} {g : GSem nD τ sig} {u : Unit} (h : 0 < Obar S c g u) :
    ∃ i, g = barCell (rot i c) := by
  obtain ⟨i, hi⟩ := sum_pos h
  refine ⟨i, ?_⟩
  by_contra hn
  rw [tallyAt_apply, if_neg (fun h' => hn h'.1)] at hi
  exact Nat.lt_irrefl 0 hi
theorem O₀_pos {c : Dev nD} {g : GSem nD τ sig} {u : Unit} (h : 0 < O₀ c g u) :
    (∃ i, g = recvCell (rot i c) i) ∨ ∃ i, g = barCell (rot i c) := by
  unfold O₀ at h
  rw [Pi.add_apply, Finsupp.add_apply] at h
  rcases Nat.eq_zero_or_pos (Orecv Finset.univ c g u) with h0 | h0
  · right; exact Obar_pos (S := Finset.univ) (u := u) (by omega)
  · left; exact Orecv_pos h0

def L (g : GSem nD τ sig) : Finset Unit := if g.1.2 = .tc then {()} else ∅
/-- Barrier cells at 1, receive cells at 2, everything else at 0. -/
def lv (g : GSem nD τ sig) (_ : Unit) : ℕ := if g.2 = .reg barS then 1 else if ∃ i, g.2 = .dma (recvS i) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (i : Fin 7) : lv (recvCell c i) () = 2 := (if_neg (recv_ne_bar i)).trans (if_pos ⟨i, rfl⟩)

/-- A staging semaphore, at the bottom, may be waited for by a device that owes all it owes at launch, or nothing. -/
theorem mayWait_stage (c : Dev nD) (q : DmaSem sig) (hq : ∀ i, q ≠ recvS i) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact Finset.mem_singleton_self _)
      (fun p hp => by
        rw [Finset.mem_singleton.mp hp]; dsimp only [lv]
        rw [if_neg (fun h => by cases h), if_neg (fun ⟨i, h⟩ => hq i (SemLoc.dma.inj h))])
      (fun g u hg => by
        rcases O₀_pos hg with ⟨i, rfl⟩ | ⟨i, rfl⟩
        · rw [lv_recv]; decide
        · rw [lv_bar]; decide)
  · rw [MayWait_zero]; iintro -; iempintro

/-- At its barrier wait a device owes receive cells only, which lie above the barrier. -/
theorem mayWait_bar (c : Dev nD) :
    (levAts L lv : sProp 𝕄) ⊢ MayWait (c : Thread nD τ) (.reg barS) () (Orecv Finset.univ c) :=
  MayOwe.of_cut (L := L) (lev := lv) 1 (fun p hp => by rw [Finset.mem_singleton.mp hp, L_tc]; exact Finset.mem_singleton_self _)
    (fun g u hg => by obtain ⟨i, rfl⟩ := Orecv_pos hg; exact Finset.mem_singleton_self _)
    (fun p hp => by rw [Finset.mem_singleton.mp hp]; exact le_of_eq (lv_bar c))
    (fun g u hg => by obtain ⟨i, rfl⟩ := Orecv_pos hg; rw [lv_recv]; decide)

end Cert.KernelIdeal.Exchange

end
-- ==== Proof.KernelIdeal.Steps.lean ====
/-
# The exchange among the eight devices: one step of the body at a time

Each effect of the body that touches a semaphore, as one rule at a symbolic device `c` and a symbolic number `i`: the
unit to a barrier, the wait at the own barrier, the copy `i`, the wait for slot `i`, the wait for copy `i` to
have left. The two waits also close their cells.
-/
module

public import proofs.«01_k».proof.Proof.KernelIdeal.Schedule

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant, under the names `K` the launch allocated them at, and that every cell has reached round 0. -/
def records (K : Dev nD × Cix → ℕ) : sProp 𝕄 :=
  iprop((bigSep Finset.univ fun ck : Dev nD × Cix => cellInv ER (sched m) (K ck) (kcell ck))
    ∗ bigSep Finset.univ fun ck : Dev nD × Cix => reached ER (kcell ck) 0)

instance records_persistent (K : Dev nD × Cix → ℕ) : BI.Persistent (records m K) := by unfold records; infer_instance

theorem inv_at (K : Dev nD × Cix → ℕ) (ck : Dev nD × Cix) : records m K ⊢ cellInv ER (sched m) (K ck) (kcell ck) := by
  unfold records
  iintro ⟨H, -⟩
  iapply (show (bigSep Finset.univ fun ck : Dev nD × Cix => (cellInv ER (sched m) (K ck) (kcell ck) : sProp 𝕄)) ⊢ cellInv ER (sched m) (K ck) (kcell ck) from
    bigSep_elim (Finset.mem_univ ck)) $$ H
theorem reached_at (K : Dev nD × Cix → ℕ) (ck : Dev nD × Cix) : records m K ⊢ reached ER (kcell ck) 0 := by
  unfold records
  iintro ⟨-, H⟩
  iapply (show (bigSep Finset.univ fun ck : Dev nD × Cix => (reached ER (kcell ck) 0 : sProp 𝕄)) ⊢ reached ER (kcell ck) 0 from
    bigSep_elim (Finset.mem_univ ck)) $$ H

/-- What device `c` owes, whatever it has waited for. -/
def owesSome (c : Dev nD) (O : CellTallies nD τ sig Unit) : sProp 𝕄 := iprop(∃ W, owes (c : Thread nD τ) O W)

/-- What the unit to `rot i c` takes: the token of the duty it pays and the slot it hands over. -/
def sigRes (c : Dev nD) (i : Fin 7) : sProp 𝕄 :=
  iprop(dutyTok ER (barCell (rot i c)) 0 (rev i) ∗ ∃ f, slotPts c (rev i) f)
/-- What copy `i` takes: its rows, the slot it goes to, the tokens of the two duties it pays. -/
def sndRes (c : Dev nD) (i : Fin 7) : sProp 𝕄 :=
  iprop(rowPts c i (part m c) ∗ (∃ f, slotPts (rot i c) i f) ∗ dutyTok ER (sendCell c i) 0 i ∗ dutyTok ER (recvCell (rot i c) i) 0 i)

section Steps

variable (K : Dev nD × Cix → ℕ) (c : Dev nD) (i : Fin 7)

theorem wp_unit {α : Type} {Q : α → sProp 𝕄} {k : PUnit → Prog (TpuEff nD τ sig (Elt F) Λ₀ .tc) α} (n : Dev nD) (hn : n = rot i c) :
    iprop(records m K ∗ owesSome c (Orecv Finset.univ c + Obar (rest i.val) c) ∗ sigRes c i)
      ⊢ iprop((owesSome c (Orecv Finset.univ c + Obar (rest (i.val + 1)) c) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toInt) k) Q) := by
  subst hn
  unfold owesSome sigRes
  iintro ⟨#HR, ⟨%W, HO⟩, Ht, Hs⟩ Hk
  iapply (Rounds.wp_signal 𝒱₀ ER (sched m) (c : Thread nD τ) none (dst := (rot i c : Thread nD τ)) (κ := K (rot i c, .inl ()))
      (d := rev i) (by rw [duties_bar]; exact Finset.mem_univ _) ((amount_bar m (rot i c) (rev i)).trans (by decide)) () (O₀ := Orecv Finset.univ c + Obar (rest i.val) c)
      (Orecv Finset.univ c + Obar (rest (i.val + 1)) c) (by rw [Obar_step, ← add_assoc]; rfl)) $$ [HO Ht Hs]
  · isplitr; · iapply (inv_at m K (rot i c, .inl ())); iexact HR
    isplitl [HO]; · iexact HO
    isplitl [Ht]; · iexact Ht
    isplitl [Hs]
    · rw [payload_bar]; unfold barPay; rw [rot_rev]
      isplitl [Hs]; · iexact Hs
      iapply (reached_at m K (c, .inr (.inr (rev i)))); iexact HR
    iapply (reached_at m K (rot i c, .inl ())); iexact HR
  iintro HO
  iapply Hk
  iexists W; iexact HO

theorem wp_barrier {α : Type} {Q : α → sProp 𝕄} {k : PUnit → Prog (TpuEff nD τ sig (Elt F) Λ₀ .tc) α} :
    iprop(records m K ∗ levAts L lv ∗ owesSome c (Orecv Finset.univ c) ∗ cred (tallyAt (barCell c) () 7) ∗ atPos ER (barCell c) 0 ∅ 0)
      ⊢ iprop(((owesSome c (Orecv Finset.univ c) ∗ semVal (barCell c) 0 ∗ bigSep Finset.univ fun d : Fin 7 => iprop(∃ f, slotPts (rot d c) d f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (7#32 : BitVec 32).toInt) k) Q) := by
  unfold owesSome
  iintro ⟨#HR, #Hlev, ⟨%W, HO⟩, Hc, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := Orecv Finset.univ c) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  ihave Hp' := (Entails.of_eq (bigSep_sep' Finset.univ (fun d : Fin 7 => (iprop(∃ f, slotPts (rot d c) d f) : sProp 𝕄)) (fun d => reached ER (recvCell (rot d c) d) 0))) $$ Hp
  icases Hp' with ⟨Hs, -⟩
  imod (Rounds.cell_close ER (sched m) (Set.mem_univ (K (c, .inl ()))) (fun h => h) (R := 0 + 1) (duties_later m (barCell c))) $$ [Hat] with Hz
  · isplitr; · iapply (inv_at m K (c, .inl ())); iexact HR
    iexact Hat
  iapply Hk
  isplitl [HO]; · iexists _; iexact HO
  isplitl [Hz]; · iexact Hz
  iexact Hs

/-- What lands in slot `i` of `rot i c` is what that slot is to receive. -/
theorem landed (fd : Buf (Elt F) ((slotM i).view.loc (rot i c : Thread nD τ))) :
    ((slotM i).view.read (Elt F) ((slotM i).view.write (Elt F) fd ((rowM c i).view.read (Elt F) (part m c)) Finset.univ) : Vec F S32x256 .f32)
      = got m (rot i c) i := by
  rw [View.read_write_univ, read_rowM]
  unfold got
  rw [rot_rev]

theorem wp_copy {α : Type} {Q : α → sProp 𝕄} {k : PUnit → Prog (TpuEff nD τ sig (Elt F) Λ₀ .tc) α} (n : Dev nD) (hn : n = rot i c) {src : Memref sig .tc .vmem S32x256 .f32} {dst : Memref sig (Dev.tc n : Thread nD τ).2.kind .vmem S32x256 .f32}
    {s r : DmaSem sig} (hs : src = rowM c i) (hd : dst = slotM i) (hsS : s = sendS i) (hr : r = recvS i)
    {hsc : dst.view.ref.isScScratch = false} {hsrc : src.view.WordExact} {hdst : dst.view.WordExact}
    {hsem : DmaTarget.Typed .vmem (.dma r) (.remote (Dev.tc n : Thread nD τ) dst (.dma s) hsc)} :
    iprop(records m K ∗ owesSome c (Orecv (rest i.val) c) ∗ sndRes m c i)
      ⊢ iprop(((owesSome c (Orecv (rest (i.val + 1)) c) ∗ cred (tallyAt (sendCell c i) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s) hsc) (.dma r) hsrc hdst hsem) k) Q) := by
  subst hn hs hd hsS hr
  unfold owesSome sndRes
  iintro ⟨#HR, ⟨%W, HO⟩, Hrow, ⟨%fd, Hslot⟩, HtS, HtR⟩ Hk
  unfold rowPts slotPts
  iapply (Rounds.wp_send_pointsTo 𝒱₀ ER (sched m) (c : Thread nD τ) none (κ₁ := K (c, .inr (.inl i))) (κ₂ := K (rot i c, .inr (.inr i)))
    (r₁ := 0) (r₂ := 0) (d₁ := i) (d₂ := i) (fd := fd)
    (by rw [duties_send]; exact Finset.mem_singleton_self _) (by rw [duties_recv]; exact Finset.mem_singleton_self _)
    () () N rfl (amount_send m c i i) (amount_recv m (rot i c) i i) (Orecv (rest (i.val + 1)) c) (Orecv_step c i) (W := W)
    (by rw [payload_send]; exact BI.Entails.refl _)
    (by
      rw [payload_recv]; unfold recvPay slotPts
      iintro H
      iexists _
      isplitr
      · ipureintro; exact landed m c i fd
      iexact H)) $$ [Hrow Hslot HO HtS HtR]
  · isplitr; · iapply (inv_at m K (c, .inr (.inl i))); iexact HR
    isplitr; · iapply (inv_at m K (rot i c, .inr (.inr i))); iexact HR
    isplitl [Hrow]; · iexact Hrow
    isplitl [Hslot]; · iexact Hslot
    isplitl [HO]; · iexact HO
    isplitl [HtS]; · iexact HtS
    isplitr; · iapply (reached_at m K (c, .inr (.inl i))); iexact HR
    isplitl [HtR]; · iexact HtR
    iapply (reached_at m K (rot i c, .inr (.inr i))); iexact HR
  iintro ⟨Hc, HO⟩
  iapply Hk
  isplitl [HO]; · iexists W; iexact HO
  iexact Hc

theorem wp_arrived {α : Type} {Q : α → sProp 𝕄} {k : PUnit → Prog (TpuEff nD τ sig (Elt F) Λ₀ .tc) α} {src dst : Memref sig .tc .vmem S32x256 .f32} {r : DmaSem sig} (hd : dst = slotM i) (hr : r = recvS i)
    {hsrc : src.view.WordExact} {hdst : dst.view.WordExact} :
    iprop(records m K ∗ owesSome c 0 ∗ cred (tallyAt (recvCell c i) () N) ∗ atPos ER (recvCell c i) 0 ∅ 0)
      ⊢ iprop(((owesSome c 0 ∗ semVal (recvCell c i) 0 ∗ recvPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 r src dst hsrc hdst) k) Q) := by
  subst hd hr
  unfold owesSome
  iintro ⟨#HR, ⟨%W, HO⟩, Hc, Hat⟩ Hk
  iapply (Rounds.wp_wait_rest_token 𝒱₀ ER (sched m) (c : Thread nD τ) none (κ := K (c, .inr (.inr i)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m K (c, .inr (.inr i))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c i)) $$ Hpay
  imod (Rounds.cell_close ER (sched m) (Set.mem_univ (K (c, .inr (.inr i)))) (fun h => h) (R := 0 + 1) (duties_later m (recvCell c i))) $$ [Hat] with Hz
  · isplitr; · iapply (inv_at m K (c, .inr (.inr i))); iexact HR
    iexact Hat
  iapply Hk
  isplitl [HO]; · iexists _; iexact HO
  isplitl [Hz]; · iexact Hz
  iexact Hp

theorem wp_left {α : Type} {Q : α → sProp 𝕄} {k : PUnit → Prog (TpuEff nD τ sig (Elt F) Λ₀ .tc) α} {src dst : Memref sig .tc .vmem S32x256 .f32} {s : DmaSem sig} (hd : dst = rowM c i) (hs : s = sendS i)
    {hsrc : src.view.WordExact} {hdst : dst.view.WordExact} :
    iprop(records m K ∗ owesSome c 0 ∗ cred (tallyAt (sendCell c i) () N) ∗ atPos ER (sendCell c i) 0 ∅ 0)
      ⊢ iprop(((owesSome c 0 ∗ semVal (sendCell c i) 0 ∗ rowPts c i (part m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hd hs
  unfold owesSome
  iintro ⟨#HR, ⟨%W, HO⟩, Hc, Hat⟩ Hk
  iapply (Rounds.wp_wait_rest_token 𝒱₀ ER (sched m) (c : Thread nD τ) none (κ := K (c, .inr (.inl i)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m K (c, .inr (.inl i))); iexact HR
    isplitl [Hc]; · iexact Hc
    isplitl [HO]; · iexact HO
    isplitr; · rw [MayWait_zero]; iempintro
    iexact Hat
  iintro ⟨HO, Hat, -, Hpay⟩
  ihave Hp := (Entails.of_eq ((rest_send m c i).trans (by unfold sendPay; rfl))) $$ Hpay
  imod (Rounds.cell_close ER (sched m) (Set.mem_univ (K (c, .inr (.inl i)))) (fun h => h) (R := 0 + 1) (duties_later m (sendCell c i))) $$ [Hat] with Hz
  · isplitr; · iapply (inv_at m K (c, .inr (.inl i))); iexact HR
    iexact Hat
  iapply Hk
  isplitl [HO]; · iexists _; iexact HO
  isplitl [Hz]; · iexact Hz
  iexact Hp

end Steps

end Cert.KernelIdeal.Exchange

end
-- ==== Proof.KernelIdeal.Body.lean ====
/-
# The exchange among the eight devices: the body

The kernel's body on one device, from what the launch hands it to what it leaves: its result block, its semaphores at zero
and its two scratch buffers whole again.
-/
module

public import proofs.«01_k».proof.Proof.KernelIdeal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

theorem dev1_eq (c : Dev nD) : (⟨k0_dev1 c, k0_dev1_lt c⟩ : Dev nD) = rot 0 c := Fin.ext (k0_dev1_eq c)
theorem dev2_eq (c : Dev nD) : (⟨k0_dev2 c, k0_dev2_lt c⟩ : Dev nD) = rot 1 c := Fin.ext (k0_dev2_eq c)
theorem dev3_eq (c : Dev nD) : (⟨k0_dev3 c, k0_dev3_lt c⟩ : Dev nD) = rot 2 c := Fin.ext (k0_dev3_eq c)
theorem dev4_eq (c : Dev nD) : (⟨k0_dev4 c, k0_dev4_lt c⟩ : Dev nD) = rot 3 c := Fin.ext (k0_dev4_eq c)
theorem dev5_eq (c : Dev nD) : (⟨k0_dev5 c, k0_dev5_lt c⟩ : Dev nD) = rot 4 c := Fin.ext (k0_dev5_eq c)
theorem dev6_eq (c : Dev nD) : (⟨k0_dev6 c, k0_dev6_lt c⟩ : Dev nD) = rot 5 c := Fin.ext (k0_dev6_eq c)
theorem dev7_eq (c : Dev nD) : (⟨k0_dev7 c, k0_dev7_lt c⟩ : Dev nD) = rot 6 c := Fin.ext (k0_dev7_eq c)
theorem dev8_eq (c : Dev nD) : (⟨k0_dev8 c, k0_dev8_lt c⟩ : Dev nD) = rot 0 c := Fin.ext (k0_dev8_eq c)
theorem dev9_eq (c : Dev nD) : (⟨k0_dev9 c, k0_dev9_lt c⟩ : Dev nD) = rot 1 c := Fin.ext (k0_dev9_eq c)
theorem dev10_eq (c : Dev nD) : (⟨k0_dev10 c, k0_dev10_lt c⟩ : Dev nD) = rot 2 c := Fin.ext (k0_dev10_eq c)
theorem dev11_eq (c : Dev nD) : (⟨k0_dev11 c, k0_dev11_lt c⟩ : Dev nD) = rot 3 c := Fin.ext (k0_dev11_eq c)
theorem dev12_eq (c : Dev nD) : (⟨k0_dev12 c, k0_dev12_lt c⟩ : Dev nD) = rot 4 c := Fin.ext (k0_dev12_eq c)
theorem dev13_eq (c : Dev nD) : (⟨k0_dev13 c, k0_dev13_lt c⟩ : Dev nD) = rot 5 c := Fin.ext (k0_dev13_eq c)
theorem dev14_eq (c : Dev nD) : (⟨k0_dev14 c, k0_dev14_lt c⟩ : Dev nD) = rot 6 c := Fin.ext (k0_dev14_eq c)

/-! ## What the body starts from and what it leaves -/

/-- The tokens of the duties device `c` pays. -/
def payToks (c : Dev nD) : sProp 𝕄 :=
  iprop((bigSep Finset.univ fun i : Fin 7 => dutyTok ER (barCell (rot i c)) 0 (rev i))
    ∗ (bigSep Finset.univ fun i : Fin 7 => dutyTok ER (sendCell c i) 0 i)
    ∗ bigSep Finset.univ fun i : Fin 7 => dutyTok ER (recvCell (rot i c) i) 0 i)
/-- Device `c`'s positions at its own cells. -/
def places (c : Dev nD) : sProp 𝕄 :=
  iprop(atPos ER (barCell c) 0 ∅ 0 ∗ (bigSep Finset.univ fun i : Fin 7 => atPos ER (sendCell c i) 0 ∅ 0)
    ∗ bigSep Finset.univ fun i : Fin 7 => atPos ER (recvCell c i) 0 ∅ 0)
def ghost (K : Dev nD × Cix → ℕ) (c : Dev nD) : sProp 𝕄 := iprop(records m K ∗ places c ∗ payToks c)

/-- The ghost state at some names, the credit of its barrier's seven units and of its seven landings, the levels. -/
def start (c : Dev nD) : sProp 𝕄 :=
  iprop((∃ K, ghost m K c) ∗ cred (tallyAt (barCell c) () 7) ∗ (bigSep Finset.univ fun i : Fin 7 => cred (tallyAt (recvCell c i) () N)) ∗ levAts L lv)

/-- The two scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
def Φ₁ (c : Dev nD) : sProp 𝕄 :=
  iprop(scratch (F := F) c ∗ (bigSep Finset.univ fun i : Fin 7 => semVal (sendCell c i) 0) ∗ (bigSep Finset.univ fun i : Fin 7 => semVal (recvCell c i) 0)
    ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => istg m c
    | ⟨3, _⟩ => estg m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## Reads and writes -/

theorem zero2 : (![0, 0] : Fin 2 → Nat) = fun _ => 0 := funext fun a => by fin_cases a <;> rfl
theorem read_x (f : (cc0_stg0_0 : Ref sig .tc).ty.Contents (Elt F)) :
    xM.view.readAt (Elt F) (Rect.unit (s := S256x128) ![0, 0] S256x128.size inb_S256x128_S256x128_0_0).toLoadRect f = f :=
  Memref.readAt_unit_zero (Elt F) cc0_stg0_0 zero2 _ f
theorem read_w (f : (cc0_stg1_0 : Ref sig .tc).ty.Contents (Elt F)) :
    wM.view.readAt (Elt F) (Rect.unit (s := S128x16) ![0, 0] S128x16.size inb_S128x16_S128x16_0_0).toLoadRect f = f :=
  Memref.readAt_unit_zero (Elt F) cc0_stg1_0 zero2 _ f
theorem write_part (c : Dev nD) (f w : (cc0_scratch0 : Ref sig .tc).ty.Contents (Elt F)) (h : w = part m c) :
    (pM.access (Rect.unit (s := S256x256) ![0, 0] S256x256.size inb_S256x256_S256x256_0_0) : View sig .tc _ _ _).write (Elt F) f w Finset.univ = part m c :=
  h ▸ Memref.write_access_unit_zero_univ (Elt F) cc0_scratch0 zero2 _ f w
theorem write_out (c : Dev nD) (f w : (cc0_stg4_0 : Ref sig .tc).ty.Contents (Elt F)) (h : w = outAt m c) :
    (oM.access (Rect.unit (s := S32x256) ![0, 0] S32x256.size inb_S32x256_S32x256_0_0) : View sig .tc _ _ _).write (Elt F) f w Finset.univ = outAt m c :=
  h ▸ Memref.write_access_unit_zero_univ (Elt F) cc0_stg4_0 zero2 _ f w
theorem slot_access (i : Fin 7) : (rM.access (slotRect i)).set ⊆ (slotM i).view.set :=
  le_of_eq ((View.set_reshape _ _).symm)
theorem own_access (c : Dev nD) : (pM.access (ownRect c)).set ⊆ (ownRect c).set := le_of_eq (View.set_slice_whole _ _)

/-- A slot as loaded, without its first axis, is what the slot's view reads. -/
theorem cast_slot (i : Fin 7) (f : (cc0_scratch1 : Ref sig .tc).ty.Contents (Elt F)) :
    (shapeCast S32x256 ((rM.access (slotRect i)).read (Elt F) f : Vec F S1x32x256 .f32) shapeCasts_S1x32x256_S32x256 : Vec F S32x256 .f32)
      = (slotM i).view.read (Elt F) f := rfl

theorem sum_eq (c : Dev nD) (f : Fin 7 → (cc0_scratch1 : Ref sig .tc).ty.Contents (Elt F))
    (h : ∀ i, ((slotM i).view.read (Elt F) (f i) : Vec F S32x256 .f32) = got m c i) (own : Vec F S32x256 .f32) (hown : own = rowsAt c (part m c)) :
    k0_pay15 (k0_pay14 (k0_pay13 own ((rM.access (slotRect 0)).read (Elt F) (f 0)) ((rM.access (slotRect 1)).read (Elt F) (f 1)))
        ((rM.access (slotRect 2)).read (Elt F) (f 2)) ((rM.access (slotRect 3)).read (Elt F) (f 3)) ((rM.access (slotRect 4)).read (Elt F) (f 4)))
        ((rM.access (slotRect 5)).read (Elt F) (f 5)) ((rM.access (slotRect 6)).read (Elt F) (f 6)) = outAt m c := by
  subst hown
  have e (i : Fin 7) := (cast_slot i (f i)).trans (h i)
  unfold k0_pay15 k0_pay14 k0_pay13 outAt
  dsimp only
  rw [e 0, e 1, e 2, e 3, e 4, e 5, e 6]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Cix → ℕ) (c : Dev nD) : sProp 𝕄 :=
  iprop((ghost m K c ∗ cred (tallyAt (barCell c) () 7) ∗ (bigSep Finset.univ fun i : Fin 7 => cred (tallyAt (recvCell c i) () N)) ∗ levAts L lv)
    ∗ scratch c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ (F := F) c ∗ (dats m 0 c).owesAt () t0_0.succ ∗ stg c cc0_stg0_0 (xstg m c) ∗ stg c cc0_stg1_0 (wstg m c)
    ∗ stg c cc0_stg2_0 (istg m c) ∗ stg c cc0_stg3_0 (estg m c) ∗ stg c cc0_stg4_0 (outAt m c))

/-- What the seven units to the barriers take, from the landing buffer and the tokens. -/
theorem units (c : Dev nD) (f : Buf (Elt F) ((c : Thread nD τ).loc cc0_scratch1)) :
    iprop((bigSep Finset.univ fun i : Fin 7 => (dutyTok ER (barCell (rot i c)) 0 (rev i) : sProp 𝕄)) ∗ ((c : Thread nD τ).loc cc0_scratch1) ↦{fullShare} f)
      ⊢ bigSep Finset.univ fun i : Fin 7 => sigRes (F := F) c i := by
  rw [slots_split, bigSep_univ_equiv revEquiv (fun i : Fin 7 => (slotPts c i f : sProp 𝕄)), ← bigSep_sep']
  refine bigSep_mono fun i _ => ?_
  show iprop(dutyTok ER (barCell (rot i c)) 0 (rev i) ∗ slotPts c (rev i) f) ⊢ sigRes c i
  unfold sigRes
  iintro ⟨Ht, Hs⟩
  isplitl [Ht]; · iexact Ht
  iexists f; iexact Hs

/-- What the seven copies take. -/
theorem copies (c : Dev nD) :
    iprop((bigSep Finset.univ fun i : Fin 7 => (rowPts c i (part m c) : sProp 𝕄)) ∗ (bigSep Finset.univ fun i : Fin 7 => (iprop(∃ f, slotPts (rot i c) i f) : sProp 𝕄))
        ∗ (bigSep Finset.univ fun i : Fin 7 => (dutyTok ER (sendCell c i) 0 i : sProp 𝕄)) ∗ bigSep Finset.univ fun i : Fin 7 => dutyTok ER (recvCell (rot i c) i) 0 i)
      ⊢ bigSep Finset.univ fun i : Fin 7 => sndRes m c i := by
  rw [← bigSep_sep', ← bigSep_sep', ← bigSep_sep']
  exact bigSep_mono fun i _ => by unfold sndRes; exact BI.Entails.refl _

set_option maxHeartbeats 4000000 in
/-- The body, one rule per effect in program order. -/
theorem sound_body (K : Dev nD × Cix → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold bodyPre ghost places payToks scratch
  iintro ⟨⟨⟨⟨#HR, ⟨HatB, HatS, HatV⟩, ⟨HtB, HtS, HtV⟩⟩, HcB, HcV, #Hlev⟩, ⟨⟨%p0, Hp⟩, ⟨%r0, Hr⟩⟩, Ho, ⟨%d0, %g0, %hg0, Hx⟩, ⟨%d1, %g1, %hg1, Hw⟩,
    ⟨%d2, %g2, %hg2, Hi⟩, ⟨%d3, %g3, %hg3, He⟩, ⟨%d4, %g4, %hg4, Hout⟩⟩, Hk⟩
  have hx : g0 = xstg m c := by rw [hg0]; unfold Dat.before; rw [if_pos (fetch0_0 t0_0)]; rfl
  have hw : g1 = wstg m c := by rw [hg1]; unfold Dat.before; rw [if_pos (fetch0_1 t0_0)]; rfl
  have hi : g2 = istg m c := by rw [hg2]; unfold Dat.before; rw [if_pos (fetch0_2 t0_0)]; rfl
  have he : g3 = estg m c := by rw [hg3]; unfold Dat.before; rw [if_pos (fetch0_3 t0_0)]; rfl
  subst hx hw hi he
  unfold Dat.owesAt Pipeline.owesWithin
  icases Ho with ⟨%W, %hW, HO⟩
  ihave Ho := (show owes (c : Thread nD τ) ((dats m 0 c).owed t0_0.castSucc) W ⊢ owesSome c (Orecv Finset.univ c + Obar (rest (0 : Fin 7).val) c) from by
    iintro H; unfold owesSome; iexists W
    rw [show Orecv Finset.univ c + Obar (rest (0 : Fin 7).val) c = (dats m 0 c).owed t0_0.castSucc from by
      show Orecv Finset.univ c + Obar (rest 0) c = O₀ c
      rw [rest_zero]; rfl]
    iexact H) $$ HO
  -- the seven units to the other devices' barriers, each with the slot that device is to fill
  ihave Hs := (units c r0) $$ [HtB Hr]
  · isplitl [HtB]; · iexact HtB
    iexact Hr
  ihave Hs := (Entails.of_eq (bigSep_fin7 (fun i => sigRes (F := F) c i))) $$ Hs
  icases Hs with ⟨S0, S1, S2, S3, S4, S5, S6⟩
  iapply (wp_unit m K c 0 _ (dev1_eq c)) $$ [Ho S0]
  · isplitr; · iexact HR
    isplitl [Ho]; · iexact Ho
    iexact S0
  iintro Ho
  iapply (wp_unit m K c 1 _ (dev2_eq c)) $$ [Ho S1]
  · isplitr; · iexact HR
    isplitl [Ho]; · iexact Ho
    iexact S1
  iintro Ho
  iapply (wp_unit m K c 2 _ (dev3_eq c)) $$ [Ho S2]
  · isplitr; · iexact HR
    isplitl [Ho]; · iexact Ho
    iexact S2
  iintro Ho
  iapply (wp_unit m K c 3 _ (dev4_eq c)) $$ [Ho S3]
  · isplitr; · iexact HR
    isplitl [Ho]; · iexact Ho
    iexact S3
  iintro Ho
  iapply (wp_unit m K c 4 _ (dev5_eq c)) $$ [Ho S4]
  · isplitr; · iexact HR
    isplitl [Ho]; · iexact Ho
    iexact S4
  iintro Ho
  iapply (wp_unit m K c 5 _ (dev6_eq c)) $$ [Ho S5]
  · isplitr; · iexact HR
    isplitl [Ho]; · iexact Ho
    iexact S5
  iintro Ho
  iapply (wp_unit m K c 6 _ (dev7_eq c)) $$ [Ho S6]
  · isplitr; · iexact HR
    isplitl [Ho]; · iexact Ho
    iexact S6
  iintro Ho
  -- the wait for seven units at its own barrier
  ihave Ho := (show owesSome c (Orecv Finset.univ c + Obar (rest ((6 : Fin 7).val + 1)) c) ⊢ owesSome c (Orecv Finset.univ c) from
    Entails.of_eq (by
      show owesSome c (Orecv Finset.univ c + Obar (rest 7) c) = _
      rw [rest_seven, show Obar ∅ c = 0 from Finset.sum_empty, add_zero])) $$ Ho
  iapply (wp_barrier m K c) $$ [Ho HcB HatB]
  · isplitr; · iexact HR
    isplitr; · iexact Hlev
    isplitl [Ho]; · iexact Ho
    isplitl [HcB]; · iexact HcB
    iexact HatB
  iintro ⟨Ho, HzB, Hslots⟩
  -- the loads, the partial result
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := pM) (Finset.subset_univ _)) $$ Hp; iintro Hp
  iapply (wp_store 𝒱₀ (c : Thread nD τ) none Set.univ (m := pM) (r := Rect.unit (s := S256x256) ![0, 0] S256x256.size inb_S256x256_S256x256_0_0) (Mk := Finset.univ) (Finset.subset_univ _)) $$ Hp; iintro Hp
  rw [write_part m c]
  swap; · rfl
  ihave Hp := (Entails.of_eq (rows_split c (part m c))) $$ Hp
  icases Hp with ⟨Hown, Hrows⟩
  -- the seven copies
  ihave Hs := (copies m c) $$ [Hrows Hslots HtS HtV]
  · isplitl [Hrows]; · iexact Hrows
    isplitl [Hslots]; · iexact Hslots
    isplitl [HtS]; · iexact HtS
    iexact HtV
  ihave Hs := (Entails.of_eq (bigSep_fin7 (fun i => sndRes m c i))) $$ Hs
  icases Hs with ⟨S0, S1, S2, S3, S4, S5, S6⟩
  ihave Ho := (show owesSome c (Orecv Finset.univ c) ⊢ owesSome c (Orecv (rest (0 : Fin 7).val) c) from
    Entails.of_eq (by show owesSome c (Orecv Finset.univ c) = owesSome c (Orecv (rest 0) c); rw [rest_zero])) $$ Ho
  iapply (wp_copy m K c 0 _ (dev8_eq c) (s := sendS 0) (r := recvS 0) rfl rfl rfl rfl) $$ [Ho S0]
  · isplitr; · iexact HR
    isplitl [Ho]; · iexact Ho
    iexact S0
  iintro ⟨Ho, C0⟩
  iapply (wp_copy m K c 1 _ (dev9_eq c) (s := sendS 1) (r := recvS 1) rfl rfl rfl rfl) $$ [Ho S1]
  · isplitr; · iexact HR
    isplitl [Ho]; · iexact Ho
    iexact S1
  iintro ⟨Ho, C1⟩
  iapply (wp_copy m K c 2 _ (dev10_eq c) (s := sendS 2) (r := recvS 2) rfl rfl rfl rfl) $$ [Ho S2]
  · isplitr; · iexact HR
    isplitl [Ho]; · iexact Ho
    iexact S2
  iintro ⟨Ho, C2⟩
  iapply (wp_copy m K c 3 _ (dev11_eq c) (s := sendS 3) (r := recvS 3) rfl rfl rfl rfl) $$ [Ho S3]
  · isplitr; · iexact HR
    isplitl [Ho]; · iexact Ho
    iexact S3
  iintro ⟨Ho, C3⟩
  iapply (wp_copy m K c 4 _ (dev12_eq c) (s := sendS 4) (r := recvS 4) rfl rfl rfl rfl) $$ [Ho S4]
  · isplitr; · iexact HR
    isplitl [Ho]; · iexact Ho
    iexact S4
  iintro ⟨Ho, C4⟩
  iapply (wp_copy m K c 5 _ (dev13_eq c) (s := sendS 5) (r := recvS 5) rfl rfl rfl rfl) $$ [Ho S5]
  · isplitr; · iexact HR
    isplitl [Ho]; · iexact Ho
    iexact S5
  iintro ⟨Ho, C5⟩
  iapply (wp_copy m K c 6 _ (dev14_eq c) (s := sendS 6) (r := recvS 6) rfl rfl rfl rfl) $$ [Ho S6]
  · isplitr; · iexact HR
    isplitl [Ho]; · iexact Ho
    iexact S6
  iintro ⟨Ho, C6⟩
  ihave Ho := (show owesSome c (Orecv (rest ((6 : Fin 7).val + 1)) c) ⊢ owesSome c 0 from
    Entails.of_eq (by
      show owesSome c (Orecv (rest 7) c) = _
      rw [rest_seven, show Orecv ∅ c = 0 from Finset.sum_empty])) $$ Ho
  -- its own rows, then slot after slot
  unfold ownPts
  iapply (wp_load_rect 𝒱₀ (c : Thread nD τ) none Set.univ (m := pM) (r := ownRect c) (S := (ownRect c).set) (own_access c)) $$ Hown; iintro Hown
  ihave HcV := (Entails.of_eq (bigSep_fin7 (fun i => (cred (tallyAt (recvCell c i) () N) : sProp 𝕄)))) $$ HcV
  icases HcV with ⟨V0, V1, V2, V3, V4, V5, V6⟩
  ihave HatV := (Entails.of_eq (bigSep_fin7 (fun i => (atPos ER (recvCell c i) 0 ∅ 0 : sProp 𝕄)))) $$ HatV
  icases HatV with ⟨A0, A1, A2, A3, A4, A5, A6⟩
  iapply (wp_arrived m K c 0 (r := recvS 0) rfl rfl) $$ [Ho V0 A0]
  · isplitr; · iexact HR
    isplitl [Ho]; · iexact Ho
    isplitl [V0]; · iexact V0
    iexact A0
  unfold recvPay
  iintro ⟨Ho, Z0, ⟨%f0, %h0, P0⟩⟩
  unfold slotPts
  iapply (wp_load_rect 𝒱₀ (c : Thread nD τ) none Set.univ (m := rM) (r := slotRect 0) (S := (slotM 0).view.set) (slot_access 0)) $$ P0; iintro P0
  iapply (wp_arrived m K c 1 (r := recvS 1) rfl rfl) $$ [Ho V1 A1]
  · isplitr; · iexact HR
    isplitl [Ho]; · iexact Ho
    isplitl [V1]; · iexact V1
    iexact A1
  unfold recvPay
  iintro ⟨Ho, Z1, ⟨%f1, %h1, P1⟩⟩
  unfold slotPts
  iapply (wp_load_rect 𝒱₀ (c : Thread nD τ) none Set.univ (m := rM) (r := slotRect 1) (S := (slotM 1).view.set) (slot_access 1)) $$ P1; iintro P1
  iapply (wp_arrived m K c 2 (r := recvS 2) rfl rfl) $$ [Ho V2 A2]
  · isplitr; · iexact HR
    isplitl [Ho]; · iexact Ho
    isplitl [V2]; · iexact V2
    iexact A2
  unfold recvPay
  iintro ⟨Ho, Z2, ⟨%f2, %h2, P2⟩⟩
  unfold slotPts
  iapply (wp_load_rect 𝒱₀ (c : Thread nD τ) none Set.univ (m := rM) (r := slotRect 2) (S := (slotM 2).view.set) (slot_access 2)) $$ P2; iintro P2
  iapply (wp_arrived m K c 3 (r := recvS 3) rfl rfl) $$ [Ho V3 A3]
  · isplitr; · iexact HR
    isplitl [Ho]; · iexact Ho
    isplitl [V3]; · iexact V3
    iexact A3
  unfold recvPay
  iintro ⟨Ho, Z3, ⟨%f3, %h3, P3⟩⟩
  unfold slotPts
  iapply (wp_load_rect 𝒱₀ (c : Thread nD τ) none Set.univ (m := rM) (r := slotRect 3) (S := (slotM 3).view.set) (slot_access 3)) $$ P3; iintro P3
  iapply (wp_arrived m K c 4 (r := recvS 4) rfl rfl) $$ [Ho V4 A4]
  · isplitr; · iexact HR
    isplitl [Ho]; · iexact Ho
    isplitl [V4]; · iexact V4
    iexact A4
  unfold recvPay
  iintro ⟨Ho, Z4, ⟨%f4, %h4, P4⟩⟩
  unfold slotPts
  iapply (wp_load_rect 𝒱₀ (c : Thread nD τ) none Set.univ (m := rM) (r := slotRect 4) (S := (slotM 4).view.set) (slot_access 4)) $$ P4; iintro P4
  iapply (wp_arrived m K c 5 (r := recvS 5) rfl rfl) $$ [Ho V5 A5]
  · isplitr; · iexact HR
    isplitl [Ho]; · iexact Ho
    isplitl [V5]; · iexact V5
    iexact A5
  unfold recvPay
  iintro ⟨Ho, Z5, ⟨%f5, %h5, P5⟩⟩
  unfold slotPts
  iapply (wp_load_rect 𝒱₀ (c : Thread nD τ) none Set.univ (m := rM) (r := slotRect 5) (S := (slotM 5).view.set) (slot_access 5)) $$ P5; iintro P5
  iapply (wp_arrived m K c 6 (r := recvS 6) rfl rfl) $$ [Ho V6 A6]
  · isplitr; · iexact HR
    isplitl [Ho]; · iexact Ho
    isplitl [V6]; · iexact V6
    iexact A6
  unfold recvPay
  iintro ⟨Ho, Z6, ⟨%f6, %h6, P6⟩⟩
  unfold slotPts
  iapply (wp_load_rect 𝒱₀ (c : Thread nD τ) none Set.univ (m := rM) (r := slotRect 6) (S := (slotM 6).view.set) (slot_access 6)) $$ P6; iintro P6
  -- the sum, stored
  iapply (wp_load 𝒱₀ (c : Thread nD τ) none Set.univ (m := oM) (Finset.subset_univ _)) $$ Hout; iintro Hout
  iapply (wp_store 𝒱₀ (c : Thread nD τ) none Set.univ (m := oM) (r := Rect.unit (s := S32x256) ![0, 0] S32x256.size inb_S32x256_S32x256_0_0) (Mk := Finset.univ) (Finset.subset_univ _)) $$ Hout; iintro Hout
  rw [write_out m c]
  swap; · exact sum_eq m c ![f0, f1, f2, f3, f4, f5, f6] (fun i => by fin_cases i; exacts [h0, h1, h2, h3, h4, h5, h6]) _ rfl
  -- every copy has left
  ihave HatS := (Entails.of_eq (bigSep_fin7 (fun i => (atPos ER (sendCell c i) 0 ∅ 0 : sProp 𝕄)))) $$ HatS
  icases HatS with ⟨B0, B1, B2, B3, B4, B5, B6⟩
  iapply (wp_left m K c 0 (s := sendS 0) rfl rfl) $$ [Ho C0 B0]
  · isplitr; · iexact HR
    isplitl [Ho]; · iexact Ho
    isplitl [C0]; · iexact C0
    iexact B0
  iintro ⟨Ho, Y0, R0⟩
  iapply (wp_left m K c 1 (s := sendS 1) rfl rfl) $$ [Ho C1 B1]
  · isplitr; · iexact HR
    isplitl [Ho]; · iexact Ho
    isplitl [C1]; · iexact C1
    iexact B1
  iintro ⟨Ho, Y1, R1⟩
  iapply (wp_left m K c 2 (s := sendS 2) rfl rfl) $$ [Ho C2 B2]
  · isplitr; · iexact HR
    isplitl [Ho]; · iexact Ho
    isplitl [C2]; · iexact C2
    iexact B2
  iintro ⟨Ho, Y2, R2⟩
  iapply (wp_left m K c 3 (s := sendS 3) rfl rfl) $$ [Ho C3 B3]
  · isplitr; · iexact HR
    isplitl [Ho]; · iexact Ho
    isplitl [C3]; · iexact C3
    iexact B3
  iintro ⟨Ho, Y3, R3⟩
  iapply (wp_left m K c 4 (s := sendS 4) rfl rfl) $$ [Ho C4 B4]
  · isplitr; · iexact HR
    isplitl [Ho]; · iexact Ho
    isplitl [C4]; · iexact C4
    iexact B4
  iintro ⟨Ho, Y4, R4⟩
  iapply (wp_left m K c 5 (s := sendS 5) rfl rfl) $$ [Ho C5 B5]
  · isplitr; · iexact HR
    isplitl [Ho]; · iexact Ho
    isplitl [C5]; · iexact C5
    iexact B5
  iintro ⟨Ho, Y5, R5⟩
  iapply (wp_left m K c 6 (s := sendS 6) rfl rfl) $$ [Ho C6 B6]
  · isplitr; · iexact HR
    isplitl [Ho]; · iexact Ho
    isplitl [C6]; · iexact C6
    iexact B6
  iintro ⟨Ho, Y6, R6⟩
  rw [wp_ret]; imodintro
  iapply Hk
  unfold bodyPost Φ₁ scratch Dat.owesAt Pipeline.owesWithin
  isplitl [Hown R0 R1 R2 R3 R4 R5 R6 P0 P1 P2 P3 P4 P5 P6 Z0 Z1 Z2 Z3 Z4 Z5 Z6 Y0 Y1 Y2 Y3 Y4 Y5 Y6 HzB]
  · isplitl [Hown R0 R1 R2 R3 R4 R5 R6 P0 P1 P2 P3 P4 P5 P6]
    · isplitl [Hown R0 R1 R2 R3 R4 R5 R6]
      · iexists (part m c)
        rw [rows_split]
        isplitl [Hown]; · unfold ownPts; iexact Hown
        rw [bigSep_fin7]
        isplitl [R0]; · iexact R0
        isplitl [R1]; · iexact R1
        isplitl [R2]; · iexact R2
        isplitl [R3]; · iexact R3
        isplitl [R4]; · iexact R4
        isplitl [R5]; · iexact R5
        iexact R6
      · iapply (slots_join c)
        rw [bigSep_fin7]
        unfold slotPts
        isplitl [P0]; · iexists _; iexact P0
        isplitl [P1]; · iexists _; iexact P1
        isplitl [P2]; · iexists _; iexact P2
        isplitl [P3]; · iexists _; iexact P3
        isplitl [P4]; · iexists _; iexact P4
        isplitl [P5]; · iexists _; iexact P5
        iexists _; iexact P6
    rw [bigSep_fin7, bigSep_fin7]
    isplitl [Y0 Y1 Y2 Y3 Y4 Y5 Y6]
    · isplitl [Y0]; · iexact Y0
      isplitl [Y1]; · iexact Y1
      isplitl [Y2]; · iexact Y2
      isplitl [Y3]; · iexact Y3
      isplitl [Y4]; · iexact Y4
      isplitl [Y5]; · iexact Y5
      iexact Y6
    isplitl [Z0 Z1 Z2 Z3 Z4 Z5 Z6]
    · isplitl [Z0]; · iexact Z0
      isplitl [Z1]; · iexact Z1
      isplitl [Z2]; · iexact Z2
      isplitl [Z3]; · iexact Z3
      isplitl [Z4]; · iexact Z4
      isplitl [Z5]; · iexact Z5
      iexact Z6
    iexact HzB
  unfold owesSome
  icases Ho with ⟨%W', HO⟩
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists _; isplitr; · (ipureintro; rfl)
  iexact Hout

set_option maxRecDepth 4000 in
def bodyPre' (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

theorem windows5 (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

set_option maxRecDepth 4000 in
/-- The body's obligation to the pipeline. -/
theorem body_obligation (c : Dev nD) : BodyObligation (dats (F := F) m 0 c) (defs₀ (F := F)) 𝒱₀ () Set.univ := fun t => by
  rw [fin_N0 t]
  rw [windows5, windows5]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hscr⟩, Ho, Hin⟩
  iapply (sound_body m K c fun _ => bodyPost m c)
  unfold bodyPre
  isplitr []
  · isplitl [Hg Hrest]
    · isplitl [Hg]; · iexact Hg
      iexact Hrest
    isplitl [Hscr]; · iexact Hscr
    isplitl [Ho]; · iexact Ho
    iexact Hin
  · iintro H; iexact H

end Cert.KernelIdeal.Exchange

end
-- ==== Proof.KernelIdeal.Launch.lean ====
/-
# The exchange among the eight devices: the launch

The ghost state at launch, dealt to the devices that use it, the credit the launch grants for what is owed, and the run of the whole mesh.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

/-! ## The cells and the tokens -/

theorem csem_injective : Function.Injective csem := by
  rintro (a | i | i) (b | j | j) h
  · rfl
  · exact absurd h.symm (send_ne_bar _)
  · exact absurd h.symm (recv_ne_bar _)
  · exact absurd h (send_ne_bar _)
  · rw [sendS_inj (SemLoc.dma.inj h)]
  · exact absurd h (send_ne_recv _ _)
  · exact absurd h (recv_ne_bar _)
  · exact absurd h.symm (send_ne_recv _ _)
  · rw [recvS_inj (SemLoc.dma.inj h)]

theorem kcell_injective : Function.Injective (kcell : Dev nD × Cix → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A device's duties: the seven units at its barrier, the departures of its seven copies, the seven arrivals. -/
abbrev Jx : Type := Fin 7 ⊕ (Fin 7 ⊕ Fin 7)
def tokOf (cj : Dev nD × Jx) : GSem nD τ sig × ℕ × Fin 7 := match cj.2 with
  | .inl i => (barCell cj.1, 0, i)
  | .inr (.inl i) => (sendCell cj.1 i, 0, i)
  | .inr (.inr i) => (recvCell cj.1 i, 0, i)
theorem tokOf_injective : Function.Injective tokOf := by
  have hd : ∀ x : Dev nD × Jx, (tokOf x).1.1.1 = x.1 := by rintro ⟨c, (i | i | i)⟩ <;> rfl
  rintro ⟨c, j⟩ ⟨c', j'⟩ h
  have h1 : c = c' := by
    have := congrArg (fun x : GSem nD τ sig × ℕ × Fin 7 => x.1.1.1) h
    rw [hd, hd] at this; exact this
  subst h1
  have hs : (tokOf (c, j)).1.2 = (tokOf (c, j')).1.2 := congrArg (fun x : GSem nD τ sig × ℕ × Fin 7 => x.1.2) h
  have hi : (tokOf (c, j)).2.2 = (tokOf (c, j')).2.2 := congrArg (fun x : GSem nD τ sig × ℕ × Fin 7 => x.2.2) h
  rcases j with (i | i | i) <;> rcases j' with (i' | i' | i')
  · rw [show i = i' from hi]
  · exact absurd hs.symm (send_ne_bar _)
  · exact absurd hs.symm (recv_ne_bar _)
  · exact absurd hs (send_ne_bar _)
  · rw [show i = i' from hi]
  · exact absurd hs (send_ne_recv _ _)
  · exact absurd hs (recv_ne_bar _)
  · exact absurd hs.symm (send_ne_recv _ _)
  · rw [show i = i' from hi]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun i : Fin 7 => dutyTok ER (barCell c) 0 i) ∗ (bigSep Finset.univ fun i : Fin 7 => dutyTok ER (sendCell c i) 0 i)
    ∗ bigSep Finset.univ fun i : Fin 7 => dutyTok ER (recvCell c i) 0 i)

/-- What the launch deals device `c`, -/
def G (c : Dev nD) : sProp 𝕄 :=
  iprop((bigSep Finset.univ fun k : Cix => roundState ER (sched m) (kcell (c, k)) 0)
    ∗ (bigSep Finset.univ fun k : Cix => iprop(atPos ER (kcell (c, k)) 0 ∅ 0 ∗ reached ER (kcell (c, k)) 0)) ∗ toks c)
/-- and what the devices together make of it. -/
def G' (c : Dev nD) : sProp 𝕄 := iprop(∃ K, ghost m K c)

theorem bigSep_cix (Φ : Cix → sProp 𝕄) :
    bigSep Finset.univ Φ = iprop(Φ (.inl ()) ∗ (bigSep Finset.univ fun i : Fin 7 => Φ (.inr (.inl i))) ∗ bigSep Finset.univ fun i : Fin 7 => Φ (.inr (.inr i))) := by
  rw [BI.bigSep_univ_sum, BI.bigSep_univ_sum, show (bigSep Finset.univ fun a : Unit => Φ (.inl a)) = Φ (.inl ()) from
    (bigSep_univ_eq_bigSepL [()] (by decide) (by decide) (fun a : Unit => Φ (.inl a)))]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cix => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_sum]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at launch -/

theorem ownSems0_eq (c : Dev nD) : (Pipeline.ownSems0 (Ix := Unit) (Name := ℕ) (U := UU) (Lvl := ℕ) (Val := Elt F) (τ := τ) osem c : sProp 𝕄)
    = iprop((bigSep Finset.univ fun i : Fin 7 => semVal (sendCell c i) 0) ∗ bigSep Finset.univ fun i : Fin 7 => semVal (recvCell c i) 0) := by
  unfold Pipeline.ownSems0; rw [BI.bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cix => semVal (kcell (c, k)) 0 : sProp 𝕄) := by
  rw [ownSems0_eq, unscopedSems0_eq, bigSep_cix]
  iintro ⟨⟨HS, HV⟩, HB⟩
  isplitl [HB]; · iexact HB
  isplitl [HS]; · iexact HS
  iexact HV

/-- A device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cix => iprop(∃ κ : ℕ, cellInv ER (sched m) κ (kcell (c, k))))
          ∗ (bigSep Finset.univ fun k : Cix => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cix => semVal (kcell (c, k)) 0) ∗ bigSep Finset.univ fun k : Cix => roundState ER (sched m) (kcell (c, k)) 0)
      ⊢ (|={Set.univ}=> bigSep Finset.univ fun k : Cix => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_swap (Φ : Dev nD → Fin 7 → sProp 𝕄) :
    (bigSep Finset.univ fun c : Dev nD => bigSep Finset.univ fun i : Fin 7 => Φ c i) = bigSep Finset.univ fun i : Fin 7 => bigSep Finset.univ fun c : Dev nD => Φ c i := by
  rw [← bigSep_univ_prod (fun x : Dev nD × Fin 7 => Φ x.1 x.2), ← bigSep_univ_prod (fun x : Fin 7 × Dev nD => Φ x.2 x.1),
    bigSep_univ_equiv (Equiv.prodComm (Fin 7) (Dev nD)) (fun x : Dev nD × Fin 7 => Φ x.1 x.2)]
  rfl

/-- The tokens dealt to the devices that pay them. -/
theorem toks_around : (bigSep Finset.univ fun c : Dev nD => (toks c : sProp 𝕄)) ⊢ bigSep Finset.univ fun c : Dev nD => payToks c := by
  have hb : (bigSep Finset.univ fun c : Dev nD => bigSep Finset.univ fun i : Fin 7 => (dutyTok ER (barCell c) 0 i : sProp 𝕄))
      = bigSep Finset.univ fun c : Dev nD => bigSep Finset.univ fun i : Fin 7 => dutyTok ER (barCell (rot i c)) 0 (rev i) := by
    rw [bigSep_swap, bigSep_swap (fun (c : Dev nD) (i : Fin 7) => (dutyTok ER (barCell (rot i c)) 0 (rev i) : sProp 𝕄)),
      bigSep_univ_equiv revEquiv (fun i : Fin 7 => bigSep Finset.univ fun c : Dev nD => (dutyTok ER (barCell c) 0 i : sProp 𝕄))]
    exact bigSep_congr fun i _ => bigSep_univ_equiv (rotEquiv i) fun c : Dev nD => (dutyTok ER (barCell c) 0 (rev i) : sProp 𝕄)
  have hr : (bigSep Finset.univ fun c : Dev nD => bigSep Finset.univ fun i : Fin 7 => (dutyTok ER (recvCell c i) 0 i : sProp 𝕄))
      = bigSep Finset.univ fun c : Dev nD => bigSep Finset.univ fun i : Fin 7 => dutyTok ER (recvCell (rot i c) i) 0 i := by
    rw [bigSep_swap, bigSep_swap (fun (c : Dev nD) (i : Fin 7) => (dutyTok ER (recvCell (rot i c) i) 0 i : sProp 𝕄))]
    exact bigSep_congr fun i _ => bigSep_univ_equiv (rotEquiv i) fun c : Dev nD => (dutyTok ER (recvCell c i) 0 i : sProp 𝕄)
  unfold toks payToks
  rw [bigSep_sep', bigSep_sep', bigSep_sep', bigSep_sep', hb, hr]

theorem with_records {R : sProp 𝕄} [BI.Persistent R] {S : Finset (Dev nD)} {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cix => iprop(∃ κ : ℕ, cellInv ER (sched m) κ (kcell (c, k))))
          ∗ (bigSep Finset.univ fun k : Cix => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cix => iprop(∃ κ : ℕ, cellInv ER (sched m) κ (kcell ck))),
    bigSep_congr (s := Finset.univ) (fun (c : Dev nD) _ => bigSep_sep' Finset.univ (fun k : Cix => (atPos ER (kcell (c, k)) 0 ∅ 0 : sProp 𝕄)) (fun k => reached ER (kcell (c, k)) 0)),
    bigSep_sep', ← bigSep_univ_prod (fun ck : Dev nD × Cix => (reached ER (kcell ck) 0 : sProp 𝕄))]
  iintro ⟨HI, ⟨Hat, #HR⟩, Htok⟩
  ihave HK := (BI.bigSep_exists_pi Finset.univ (fun (ck : Dev nD × Cix) (κ : ℕ) => (cellInv ER (sched m) κ (kcell ck) : sProp 𝕄))) $$ HI
  icases HK with ⟨%K, #HI⟩
  ihave Htk := (toks_around (F := F)) $$ Htok
  iapply (with_records (R := records m K) (Φ := fun c => iprop(places c ∗ payToks c)) fun c _ => show _ ⊢ G' m c from by
    unfold G' ghost
    iintro H
    iexists K
    iexact H)
  isplitr
  · unfold records; isplitl; · iexact HI
    iexact HR
  · rw [bigSep_sep']
    isplitl [Hat]
    · rw [show (bigSep Finset.univ fun c : Dev nD => (places c : sProp 𝕄)) = bigSep Finset.univ fun c : Dev nD => bigSep Finset.univ fun k : Cix => (atPos ER (kcell (c, k)) 0 ∅ 0 : sProp 𝕄)
        from bigSep_congr fun c _ => (bigSep_cix fun k : Cix => (atPos ER (kcell (c, k)) 0 ∅ 0 : sProp 𝕄)).symm]
      iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem rot_eq_iff {i : Fin 7} {d c : Dev nD} : Iff (rot i d = c) (d = rot (rev i) c) :=
  ⟨fun h => by rw [← h, rot_rev], fun h => by rw [h, rot_rev']⟩
theorem dev_of_cell {a b : Dev nD} {s t : SemLoc sig} (h : (((a : Thread nD τ), s) : GSem nD τ sig) = ((b : Thread nD τ), t)) : a = b :=
  congrArg (fun g : GSem nD τ sig => g.1.1) h

theorem sum_tally (S : Finset (Fin 7)) (t : Fin 7 → CellTallies nD τ sig Unit) (g : GSem nD τ sig) : (∑ i ∈ S, t i) g () = ∑ i ∈ S, t i g () := by
  induction S using Finset.induction_on with
  | empty => rfl
  | insert a S ha ih => rw [Finset.sum_insert ha, Finset.sum_insert ha, Pi.add_apply, Finsupp.add_apply, ih]

/-- Device `d` owes device `c`'s barrier one unit per place that leads from `d` to `c`; -/
theorem owed_bar (d c : Dev nD) : O₀ d (barCell c) () = ∑ i : Fin 7, if d = rot (rev i) c then 1 else 0 := by
  unfold O₀ Orecv Obar
  rw [Pi.add_apply, Finsupp.add_apply, sum_tally, sum_tally,
    Finset.sum_eq_zero fun i _ => by rw [tallyAt_ne_cell (fun h => recv_ne_bar _ (congrArg Prod.snd h).symm)]; rfl, Nat.zero_add]
  refine Finset.sum_congr rfl fun i _ => ?_
  rw [tallyAt_apply]
  by_cases h : d = rot (rev i) c
  · rw [if_pos h, if_pos ⟨by rw [rot_eq_iff.mpr h], rfl⟩]
  · rw [if_neg h, if_neg (fun ⟨h1, _⟩ => h (rot_eq_iff.mp (dev_of_cell h1).symm))]

/-- and its `j`-th receive semaphore a block if place `j` leads from `d` to `c`. -/
theorem owed_recv (d c : Dev nD) (j : Fin 7) : O₀ d (recvCell c j) () = if d = rot (rev j) c then N else 0 := by
  unfold O₀ Orecv Obar
  rw [Pi.add_apply, Finsupp.add_apply, sum_tally, sum_tally,
    Finset.sum_eq_zero (f := fun i : Fin 7 => tallyAt (barCell (rot i d)) () 1 (recvCell c j) ())
      (fun i _ => by rw [tallyAt_ne_cell (fun h => recv_ne_bar _ (congrArg Prod.snd h))]; rfl), Nat.add_zero,
    Finset.sum_eq_single j (fun i _ hi => by
      rw [tallyAt_apply, if_neg (fun ⟨h1, _⟩ => hi (recvS_inj (SemLoc.dma.inj (congrArg Prod.snd h1))).symm)]) (fun h => absurd (Finset.mem_univ j) h), tallyAt_apply]
  by_cases h : d = rot (rev j) c
  · rw [if_pos h, if_pos ⟨by rw [rot_eq_iff.mpr h], rfl⟩]
  · rw [if_neg h, if_neg (fun ⟨h1, _⟩ => h (rot_eq_iff.mp (dev_of_cell h1).symm))]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => Finset.sum_ite_eq' Finset.univ (rot (rev i) c) fun _ => 1]
  simp

theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (rot (rev j) c) fun _ => N,
    if_pos (Finset.mem_univ _)]

theorem creds (c : Dev nD) :
    (Pipeline.launchCred O₀ c : sProp 𝕄) ⊢ iprop(cred (tallyAt (barCell c) () 7) ∗ bigSep Finset.univ fun i : Fin 7 => cred (tallyAt (recvCell c i) () N)) := by
  unfold Pipeline.launchCred
  rw [bigSep_univ_at _ (SemLoc.reg barS), launch_bar]
  refine sep_mono_right ?_
  refine (BI.bigSep_subset (t := Finset.univ.map ⟨fun i : Fin 7 => (SemLoc.dma (recvS i) : SemLoc sig), fun i j h => recvS_inj (SemLoc.dma.inj h)⟩) fun x hx => ?_).trans ?_
  · obtain ⟨i, -, rfl⟩ := Finset.mem_map.mp hx
    exact Finset.mem_erase.mpr ⟨recv_ne_bar _, Finset.mem_univ _⟩
  · rw [bigSep_map]
    exact bigSep_mono fun i _ => Entails.of_eq (congrArg cred (launch_recv c i))

/-! ## The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  iintro ⟨Hr, HzS, HzV, HzB⟩
  isplitl [HzB]; · iexact HzB
  isplitl [HzS HzV]
  · isplitl [HzS]; · iexact HzS
    iexact HzV
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On eight devices, for any float values, from any memory with zero counters: every weakly fair execution ends, with every
    semaphore at zero, the arguments as they were and each device's result at the computed contents. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of the four arguments end as they were. -/
theorem args_of (c : Dev nD) (r : PUnit × MemSt nD τ sig (Elt F)) (h : QC m r) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h c (0 : Fin 5)).trans ((dats (F := F) m 0 c).arrAt_in (0 : Fin 5) rfl _), (h c (1 : Fin 5)).trans ((dats (F := F) m 0 c).arrAt_in (1 : Fin 5) rfl _),
    (h c (2 : Fin 5)).trans ((dats (F := F) m 0 c).arrAt_in (2 : Fin 5) rfl _), (h c (3 : Fin 5)).trans ((dats (F := F) m 0 c).arrAt_in (3 : Fin 5) rfl _)⟩

/-- The run with only the arguments and the semaphores said of its end. -/
theorem run_frame : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c => args_of m c r h.1, h.2⟩) (run_main m ρ)

end Cert.KernelIdeal.Exchange

end
-- ==== Proof.Reference.lean ====
/-
# The reference's result, index by index

The generated term of the result is cut into its parts: the router's probabilities, the gates, the experts' products. Each is
read at an index, the two gathers at experts known to be among the sixteen.
-/
module

public import proofs.«01_k».proof.Proof.Gen.ReferenceIdeal.Run
public import Idealize.ShloMosaic.Lib.Pointwise

@[expose] public section

noncomputable section

namespace Cert.ReferenceIdeal.Value
open Cert.ReferenceIdeal Cert.ReferenceIdeal.Gen
open Idealize.ShloMosaic Idealize.ShloMosaic.TcCoe

/-! ## Reading the two gathers -/

/-- One entry per row of a matrix, picked by row and column numbers. -/
theorem gather_prob (x : FVec Ideal S256x16 .f32) (idx : IVec S256x2 32) (i : Fin 256) :
    Host.gather gather_S256x16_S256x2_S256_n_01_n_n_01_1_11 x idx (ix1 i)
      = x (ix2 ⟨min (idx (ix2 i 0)).toInt.toNat 255, by omega⟩ ⟨min (idx (ix2 i 1)).toInt.toNat 15, by omega⟩) := by
  have at0 : gather_S256x16_S256x2_S256_n_01_n_n_01_1_11.siIdx (ix1 i) ⟨0, by decide⟩ = ix2 i 0 := by
    funext b; fin_cases b <;> rfl
  have at1 : gather_S256x16_S256x2_S256_n_01_n_n_01_1_11.siIdx (ix1 i) ⟨1, by decide⟩ = ix2 i 1 := by
    funext b; fin_cases b <;> rfl
  unfold Host.gather
  congr 1
  funext a
  fin_cases a <;> refine Fin.ext ?_
  · show min (idx (gather_S256x16_S256x2_S256_n_01_n_n_01_1_11.siIdx (ix1 i) ⟨0, by decide⟩)).toInt.toNat 255 = min _ _
    rw [at0]
  · show min (idx (gather_S256x16_S256x2_S256_n_01_n_n_01_1_11.siIdx (ix1 i) ⟨1, by decide⟩)).toInt.toNat 15 = min _ _
    rw [at1]

/-- One matrix per token out of a stack of matrices. -/
theorem gather_expert (x : FVec Ideal S16x128x256 .f32) (idx : IVec S256x1 32) (i : Fin 256) (k : Fin 128) (j : Fin 256) :
    Host.gather gather_S16x128x256_S256x1_S256x128x256_12_0_n_n_0_1_1128256 x idx (ix3 i k j)
      = x (ix3 ⟨min (idx (ix2 i 0)).toInt.toNat 15, by omega⟩ k j) := by
  have at0 : gather_S16x128x256_S256x1_S256x128x256_12_0_n_n_0_1_1128256.siIdx (ix3 i k j) ⟨0, by decide⟩ = ix2 i 0 := by
    funext b; fin_cases b <;> rfl
  unfold Host.gather
  congr 1
  funext a
  fin_cases a <;> refine Fin.ext ?_
  · show min (idx (gather_S16x128x256_S256x1_S256x128x256_12_0_n_n_0_1_1128256.siIdx (ix3 i k j) ⟨0, by decide⟩)).toInt.toNat 15 + 0 = min _ _
    rw [at0]; rfl
  · show 0 + 0 + k.val = k.val
    omega
  · show 0 + 0 + j.val = j.val
    omega

/-! ## The parts of the result -/

/-- The router's probabilities: the softmax of the scores along the experts. -/
def soft (x : FVec Ideal S256x128 .f32) (w : FVec Ideal S128x16 .f32) : FVec Ideal S256x16 .f32 :=
  Host.divf (Host.exp (subf (Host.dotGeneral dot_S256x128_S128x16_S256x16_1_0_0_1_n_n none x w) (broadcastInDim S256x16 ![0, 1] bcast_S256x1_S256x16_0_1 (broadcastInDim S256x1 ![0] bcast_S256_S256x1_0 (Host.reduce FloatOps.maximumf (Host.dotGeneral dot_S256x128_S128x16_S256x16_1_0_0_1_n_n none x w) (constant S_ .f32 0xFF800000#32) reducesTo_S256x16_S256_d1 h_S_))))) (broadcastInDim S256x16 ![0, 1] bcast_S256x1_S256x16_0_1 (broadcastInDim S256x1 ![0] bcast_S256_S256x1_0 (Host.reduceAdd (Host.exp (subf (Host.dotGeneral dot_S256x128_S128x16_S256x16_1_0_0_1_n_n none x w) (broadcastInDim S256x16 ![0, 1] bcast_S256x1_S256x16_0_1 (broadcastInDim S256x1 ![0] bcast_S256_S256x1_0 (Host.reduce FloatOps.maximumf (Host.dotGeneral dot_S256x128_S128x16_S256x16_1_0_0_1_n_n none x w) (constant S_ .f32 0xFF800000#32) reducesTo_S256x16_S256_d1 h_S_))))) (constant S_ .f32 0x00000000#32) reducesTo_S256x16_S256_d1 h_S_)))

/-- The two columns of the chosen experts. -/
def firstOf (ix : IVec S256x2 32) : IVec S256 32 :=
  shapeCast S256 (extractStridedSlice S256x1 ![0, 0] ix slices_S256x2_S256x1_0_0) shapeCasts_S256x1_S256
def secondOf (ix : IVec S256x2 32) : IVec S256 32 :=
  shapeCast S256 (extractStridedSlice S256x1 ![0, 1] ix slices_S256x2_S256x1_0_1) shapeCasts_S256x1_S256

/-- Numbers as an index reads them: a negative one counts from the end, of which there are `n`. -/
def wrapped (n : BitVec 32) (e : IVec S256 32) : IVec S256x1 32 :=
  broadcastInDim S256x1 ![0] bcast_S256_S256x1_0
    (select (cmpi .slt e (broadcastInDim S256 ![] bcast_S_S256 (constantI S_ 32 0#32)))
      (addi e (broadcastInDim S256 ![] bcast_S_S256 (constantI S_ 32 n))) e)

/-- Each token's entry of `p` at its expert `e`. -/
def gate (p : FVec Ideal S256x16 .f32) (e : IVec S256 32) : FVec Ideal S256 .f32 :=
  Host.gather gather_S256x16_S256x2_S256_n_01_n_n_01_1_11 p
    (concatenate S256x2 1 [⟨S256x1, wrapped 256#32 (iotaInDim S256 32 0)⟩, ⟨S256x1, wrapped 16#32 e⟩] concatenates_S256x1_S256x1_S256x2_d1)

/-- Each token times the matrix of its expert `e`. -/
def expertOut (x : FVec Ideal S256x128 .f32) (W : FVec Ideal S16x128x256 .f32) (e : IVec S256 32) : FVec Ideal S256x256 .f32 :=
  Host.dotGeneral dot_S256x128_S256x128x256_S256x256_1_1_n_2_0_0 none x
    (Host.gather gather_S16x128x256_S256x1_S256x128x256_12_0_n_n_0_1_1128256 W (wrapped 16#32 e))

/-- One expert's share of the result. -/
def share (g s : FVec Ideal S256 .f32) (y : FVec Ideal S256x256 .f32) : FVec Ideal S256x256 .f32 :=
  mulf (broadcastInDim S256x256 ![0, 1] bcast_S256x1_S256x256_0_1 (broadcastInDim S256x1 ![0] bcast_S256_S256x1_0 (Host.divf g s))) y

set_option maxRecDepth 16384 in
theorem res_parts (m : (ℓ : Loc nD τ sig) → Buf (Elt Ideal) ℓ) (c : Dev nD)
    (x : FVec Ideal S256x128 .f32) (w : FVec Ideal S128x16 .f32) (ix : IVec S256x2 32) (W : FVec Ideal S16x128x256 .f32)
    (hx : m ((c.tc : Thread nD τ).loc main_arg0) = x) (hw : m ((c.tc : Thread nD τ).loc main_arg1) = w)
    (hix : m ((c.tc : Thread nD τ).loc main_arg2) = ix) (hW : m ((c.tc : Thread nD τ).loc main_arg3) = W) :
    res_out0 m c = addf
      (share (gate (soft x w) (firstOf ix)) (addf (gate (soft x w) (firstOf ix)) (gate (soft x w) (secondOf ix))) (expertOut x W (firstOf ix)))
      (share (gate (soft x w) (secondOf ix)) (addf (gate (soft x w) (firstOf ix)) (gate (soft x w) (secondOf ix))) (expertOut x W (secondOf ix))) := by
  subst hx hw hix hW
  rfl

set_option maxRecDepth 16384

/-- The score of expert `e` for token `i`, and a token's largest score. -/
def scoreAt (x : FVec Ideal S256x128 .f32) (w : FVec Ideal S128x16 .f32) (i : Fin 256) (e : Fin 16) : EReal :=
  ∑ d : Fin 128, x (ix2 i d) * w (ix2 d e)
def topAt (x : FVec Ideal S256x128 .f32) (w : FVec Ideal S128x16 .f32) (i : Fin 256) : EReal :=
  Finset.univ.fold max (Ideal.ofBits .f32 0xFF800000#32) fun e : Fin 16 => scoreAt x w i e

/-- The probability of expert `e` for token `i`, from the scores. -/
theorem soft_apply (x : FVec Ideal S256x128 .f32) (w : FVec Ideal S128x16 .f32) (i : Fin 256) (e : Fin 16) :
    soft x w (ix2 i e) = Ideal.div (Ideal.exp (scoreAt x w i e - topAt x w i)) (∑ e', Ideal.exp (scoreAt x w i e' - topAt x w i)) := by
  pointwise [soft]
  rfl

theorem firstOf_apply (ix : IVec S256x2 32) (i : Fin 256) : firstOf ix (ix1 i) = ix (ix2 i 0) := by
  pointwise [firstOf]
theorem secondOf_apply (ix : IVec S256x2 32) (i : Fin 256) : secondOf ix (ix1 i) = ix (ix2 i 1) := by
  pointwise [secondOf]

theorem wrapped_apply (n : BitVec 32) (e : IVec S256 32) (i : Fin 256) (k : ℕ) (hk : k < 256) (he : e (ix1 i) = BitVec.ofNat 32 k) :
    (wrapped n e (ix2 i 0)).toInt.toNat = k := by
  have small : ∀ k : Fin 256, IntOp.cmpi .slt (BitVec.ofNat 32 k.val) 0#32 = 0#1 ∧ (BitVec.ofNat 32 k.val).toInt.toNat = k.val := by decide
  pointwise [wrapped]
  rw [he, (small ⟨k, hk⟩).1]
  exact (small ⟨k, hk⟩).2
theorem gate_apply (p : FVec Ideal S256x16 .f32) (e : IVec S256 32) (i : Fin 256) (k : Fin 16) (he : e (ix1 i) = BitVec.ofNat 32 k) :
    gate p e (ix1 i) = p (ix2 i k) := by
  unfold gate
  rw [gather_prob]
  have at0 : concatenate S256x2 1 [⟨S256x1, wrapped 256#32 (iotaInDim S256 32 0)⟩, ⟨S256x1, wrapped 16#32 e⟩] concatenates_S256x1_S256x1_S256x2_d1 (ix2 i 0)
      = wrapped 256#32 (iotaInDim S256 32 0) (ix2 i 0) := by pointwise []
  have at1 : concatenate S256x2 1 [⟨S256x1, wrapped 256#32 (iotaInDim S256 32 0)⟩, ⟨S256x1, wrapped 16#32 e⟩] concatenates_S256x1_S256x1_S256x2_d1 (ix2 i 1)
      = wrapped 16#32 e (ix2 i 0) := by pointwise []
  congr 1
  have h0 := wrapped_apply 256#32 (iotaInDim S256 32 0) i i.val i.isLt rfl
  have h1 := wrapped_apply 16#32 e i k.val (by omega) he
  have e0 : (⟨min (concatenate S256x2 1 [⟨S256x1, wrapped 256#32 (iotaInDim S256 32 0)⟩, ⟨S256x1, wrapped 16#32 e⟩] concatenates_S256x1_S256x1_S256x2_d1 (ix2 i 0)).toInt.toNat 255, by omega⟩ : Fin 256) = i :=
    Fin.ext (by show min _ _ = _; rw [at0, h0]; omega)
  have e1 : (⟨min (concatenate S256x2 1 [⟨S256x1, wrapped 256#32 (iotaInDim S256 32 0)⟩, ⟨S256x1, wrapped 16#32 e⟩] concatenates_S256x1_S256x1_S256x2_d1 (ix2 i 1)).toInt.toNat 15, by omega⟩ : Fin 16) = k :=
    Fin.ext (by show min _ _ = _; rw [at1, h1]; omega)
  rw [e0, e1]
theorem expertOut_apply (x : FVec Ideal S256x128 .f32) (W : FVec Ideal S16x128x256 .f32) (e : IVec S256 32) (i : Fin 256) (k : Fin 16)
    (he : e (ix1 i) = BitVec.ofNat 32 k) (j : Fin 256) :
    expertOut x W e (ix2 i j) = ∑ d : Fin 128, x (ix2 i d) * W (ix3 k d j) := by
  pointwise [expertOut]
  refine Finset.sum_congr rfl fun d _ => ?_
  have e0 : (⟨min (wrapped 16#32 e (ix2 i 0)).toInt.toNat 15, by omega⟩ : Fin 16) = k :=
    Fin.ext (by show min _ _ = _; rw [wrapped_apply 16#32 e i k.val (by omega) he]; omega)
  rw [gather_expert, e0]
theorem share_apply (g s : FVec Ideal S256 .f32) (y : FVec Ideal S256x256 .f32) (i j : Fin 256) :
    share g s y (ix2 i j) = Ideal.div (g (ix1 i)) (s (ix1 i)) * y (ix2 i j) := by
  pointwise [share]

/-- The result at token `i`, column `j`, when the token's chosen experts are `a` and `b`. -/
theorem res_apply (m : (ℓ : Loc nD τ sig) → Buf (Elt Ideal) ℓ) (c : Dev nD)
    (x : FVec Ideal S256x128 .f32) (w : FVec Ideal S128x16 .f32) (ix : IVec S256x2 32) (W : FVec Ideal S16x128x256 .f32)
    (hx : m ((c.tc : Thread nD τ).loc main_arg0) = x) (hw : m ((c.tc : Thread nD τ).loc main_arg1) = w)
    (hix : m ((c.tc : Thread nD τ).loc main_arg2) = ix) (hW : m ((c.tc : Thread nD τ).loc main_arg3) = W)
    (i j : Fin 256) (a b : Fin 16) (ha : ix (ix2 i 0) = BitVec.ofNat 32 a) (hb : ix (ix2 i 1) = BitVec.ofNat 32 b) :
    (res_out0 m c : FVec Ideal S256x256 .f32) (ix2 i j) =
      Ideal.div (soft x w (ix2 i a)) (soft x w (ix2 i a) + soft x w (ix2 i b)) * ∑ d : Fin 128, x (ix2 i d) * W (ix3 a d j)
      + Ideal.div (soft x w (ix2 i b)) (soft x w (ix2 i a) + soft x w (ix2 i b)) * ∑ d : Fin 128, x (ix2 i d) * W (ix3 b d j) := by
  have fa := (firstOf_apply ix i).trans ha
  have fb := (secondOf_apply ix i).trans hb
  rw [res_parts m c x w ix W hx hw hix hW, addf_apply, share_apply, share_apply, addf_apply,
    gate_apply _ _ i a fa, gate_apply _ _ i b fb, expertOut_apply x W _ i a fa j, expertOut_apply x W _ i b fb j]
  rfl

end Cert.ReferenceIdeal.Value

end
-- ==== Proof.Value.lean ====
/-
# The kernel's result is the reference's

A device's partial result is read at an index: the shares of its two experts, each zero for a token that has not chosen the
expert. The eight partial results add up to the shares of all sixteen experts, of which two are not zero: the reference's sum.
-/
module

public import proofs.«01_k».proof.Defs
public import proofs.«01_k».proof.Proof.Gen.Pre_top2_KernelIdeal
public import proofs.«01_k».proof.Proof.KernelIdeal.Launch
public import proofs.«01_k».proof.Proof.Reference
public import Idealize.ShloMosaic.Lib.ReduceAll
public import Idealize.ShloMosaic.Lib.Layout

@[expose] public section

noncomputable section

namespace Cert.KernelIdeal.Exchange

open Cert.KernelIdeal Cert.KernelIdeal.Gen
open Idealize.ShloMosaic Idealize.ShloMosaic.TcCoe Idealize.SL.Sem
open Cert.ReferenceIdeal.Value (soft scoreAt topAt soft_apply res_out0 res_apply)

set_option maxRecDepth 16384

/-! ## Words -/

theorem place_eq : ∀ c : Dev nD, place c = BitVec.ofNat 32 c.val := by decide

/-- The two experts of a device, and their numbers as the kernel computes them. -/
def own0 (c : Dev nD) : Fin 16 := ⟨2 * c.val, by have : c.val < 8 := c.isLt; omega⟩
def own1 (c : Dev nD) : Fin 16 := ⟨2 * c.val + 1, by have : c.val < 8 := c.isLt; omega⟩
theorem own0_word : ∀ c : Dev nD, Scalar.addi (Scalar.muli (place c) 2#32) 0#32 = BitVec.ofNat 32 (own0 c).val := by decide
theorem own1_word : ∀ c : Dev nD, Scalar.addi (Scalar.muli (place c) 2#32) 1#32 = BitVec.ofNat 32 (own1 c).val := by decide

theorem eq_word : ∀ a e : Fin 16, IntOp.cmpi .eq (BitVec.ofNat 32 a.val) (BitVec.ofNat 32 e.val) = if a = e then 1#1 else 0#1 := by decide

/-- Adding up a row with all but one entry replaced by zero. -/
theorem pick (p : Fin 16 → EReal) (a : Fin 16) :
    ∑ e : Fin 16, Scalar.select (IntOp.cmpi .eq (BitVec.ofNat 32 e.val) (BitVec.ofNat 32 a.val)) (p e) 0 = p a := by
  rw [Finset.sum_eq_single a]
  · rw [eq_word, if_pos rfl]; rfl
  · intro e _ h
    rw [eq_word, if_neg h]; rfl
  · intro h
    exact absurd (Finset.mem_univ a) h

/-! ## Loads -/

theorem first_apply (ix : IVec S256x2 32) (i : Fin 256) : first (F := Ideal) ix (ix2 i 0) = ix (ix2 i 0) := by
  show ix _ = ix _
  congr 1
  funext a
  fin_cases a <;> refine Fin.ext ?_
  · show 0 + 1 * i.val = i.val
    omega
  · rfl
theorem second_apply (ix : IVec S256x2 32) (i : Fin 256) : second (F := Ideal) ix (ix2 i 0) = ix (ix2 i 1) := by
  show ix _ = ix _
  congr 1
  funext a
  fin_cases a <;> refine Fin.ext ?_
  · show 0 + 1 * i.val = i.val
    omega
  · rfl
theorem expert0_apply (ex : FVec Ideal S2x128x256 .f32) (d : Fin 128) (j : Fin 256) :
    expert0 (F := Ideal) ex (ix3 0 d j) = ex (ix3 0 d j) := by
  show ex _ = ex _
  congr 1
  funext a
  fin_cases a <;> refine Fin.ext ?_
  · rfl
  · show 0 + 1 * d.val = d.val
    omega
  · show 0 + 1 * j.val = j.val
    omega
theorem expert1_apply (ex : FVec Ideal S2x128x256 .f32) (d : Fin 128) (j : Fin 256) :
    expert1 (F := Ideal) ex (ix3 0 d j) = ex (ix3 1 d j) := by
  show ex _ = ex _
  congr 1
  funext a
  fin_cases a <;> refine Fin.ext ?_
  · rfl
  · show 0 + 1 * d.val = d.val
    omega
  · show 0 + 1 * j.val = j.val
    omega

/-- Row `r` of the block of device `c`, among the 256 rows. -/
def rowOf (c : Dev nD) (r : Fin 32) : Fin 256 := ⟨32 * c.val + r.val, by have : c.val < 8 := c.isLt; omega⟩

theorem rowsAt_apply (c : Dev nD) (f : FVec Ideal S256x256 .f32) (r : Fin 32) (j : Fin 256) :
    rowsAt (F := Ideal) c f (ix2 r j) = f (ix2 (rowOf c r) j) := by
  show f _ = f _
  congr 1
  funext a
  fin_cases a <;> refine Fin.ext ?_
  · show k0_off2 c 0 + 1 * r.val = 32 * c.val + r.val
    rw [k0_off2_eq]
    show 32 * c.val + 1 * r.val = _
    omega
  · show k0_off2 c 1 + 1 * j.val = j.val
    rw [k0_off2_eq]
    show 0 + 1 * j.val = _
    omega

/-- Each staged block is the whole argument. -/
theorem xstg_eq (m : (ℓ : Loc nD τ sig) → Buf (Elt Ideal) ℓ) (c : Dev nD) : xstg m c = m ((c : Thread nD τ).loc main_arg0) :=
  Memref.read_access_unit_zero (Elt Ideal) main_arg0 (funext fun a => by fin_cases a <;> decide) (fun a => by fin_cases a <;> decide) _
theorem wstg_eq (m : (ℓ : Loc nD τ sig) → Buf (Elt Ideal) ℓ) (c : Dev nD) : wstg m c = m ((c : Thread nD τ).loc main_arg1) :=
  Memref.read_access_unit_zero (Elt Ideal) main_arg1 (funext fun a => by fin_cases a <;> decide) (fun a => by fin_cases a <;> decide) _
theorem istg_eq (m : (ℓ : Loc nD τ sig) → Buf (Elt Ideal) ℓ) (c : Dev nD) : istg m c = m ((c : Thread nD τ).loc main_arg2) :=
  Memref.read_access_unit_zero (Elt Ideal) main_arg2 (funext fun a => by fin_cases a <;> decide) (fun a => by fin_cases a <;> decide) _
theorem estg_eq (m : (ℓ : Loc nD τ sig) → Buf (Elt Ideal) ℓ) (c : Dev nD) : estg m c = m ((c : Thread nD τ).loc main_arg3) :=
  Memref.read_access_unit_zero (Elt Ideal) main_arg3 (funext fun a => by fin_cases a <;> decide) (fun a => by fin_cases a <;> decide) _

/-- The result array ends holding the block the device computed. -/
theorem finalA_out (m : (ℓ : Loc nD τ sig) → Buf (Elt Ideal) ℓ) (c : Dev nD) : finalA m c (4 : Fin 5) = outAt m c := by
  have h : (win0_4.blk (0 : Fin 1)).view.read (Elt Ideal) (finalA m c (4 : Fin 5)) = outAt m c := by
    unfold finalA
    rw [show cfg0.N = ((0 : Fin 1) : Fin cfg0.N).val + 1 from rfl, (dats m 0 c).arrAt_succ (4 : Fin 5) (0 : Fin 1)]
    rw [show (cfg0.win (4 : Fin 5)).flush (0 : Fin 1) = true from flush0_4 _, if_pos rfl]
    exact View.read_write_univ _ _
  exact (Memref.read_access_unit_zero (Elt Ideal) main_v1 (funext fun a => by fin_cases a <;> decide) (fun a => by fin_cases a <;> decide) _).symm.trans h

/-! ## The partial result at an index -/

theorem probs_apply (x : FVec Ideal S256x128 .f32) (w : FVec Ideal S128x16 .f32) (i : Fin 256) (e : Fin 16) :
    k0_pay2 (F := Ideal) x w (ix2 i e) = soft x w (ix2 i e) := by
  rw [soft_apply]
  pointwise [k0_pay2, k0_pay1]
  rfl

/-- What expert `e` adds to the result of a token that chose `a` and `b`, given the token's probabilities and its product with
    the expert's matrix. -/
def added (p : Fin 16 → EReal) (a b e : Fin 16) (y : EReal) : EReal :=
  if a = e ∨ b = e then Ideal.div (p e) (p a + p b) * y else 0

theorem select_added (p : Fin 16 → EReal) (a b e : Fin 16) (y : EReal) :
    Scalar.select (IntOp.ori (IntOp.cmpi .eq (BitVec.ofNat 32 a.val) (BitVec.ofNat 32 e.val)) (IntOp.cmpi .eq (BitVec.ofNat 32 b.val) (BitVec.ofNat 32 e.val)))
      (Ideal.div (p e) (p a + p b) * y) 0 = added p a b e y := by
  rw [eq_word, eq_word]
  unfold added
  by_cases h : a = e <;> by_cases h' : b = e <;> simp only [h, h', if_true, if_false, or_true, true_or, or_self] <;> rfl

theorem partialOf_apply (c : Dev nD) (x : FVec Ideal S256x128 .f32) (w : FVec Ideal S128x16 .f32) (u v : IVec S256x1 32)
    (u₀ u₁ : FVec Ideal S1x128x256 .f32) (i j : Fin 256) (a b : Fin 16)
    (hu : u (ix2 i 0) = BitVec.ofNat 32 a.val) (hv : v (ix2 i 0) = BitVec.ofNat 32 b.val) :
    partialOf (F := Ideal) (place c) x w u v u₀ u₁ (ix2 i j)
      = added (fun e => soft x w (ix2 i e)) a b (own0 c) (∑ d : Fin 128, x (ix2 i d) * u₀ (ix3 0 d j))
        + added (fun e => soft x w (ix2 i e)) a b (own1 c) (∑ d : Fin 128, x (ix2 i d) * u₁ (ix3 0 d j)) := by
  have hp : (fun e => k0_pay2 (F := Ideal) x w (ix2 i e)) = fun e => soft x w (ix2 i e) := funext (probs_apply x w i)
  have hg : k0_pay5 (F := Ideal) x w u (ix2 i 0) = k0_pay2 (F := Ideal) x w (ix2 i a) := by
    pointwise [k0_pay5, k0_pay3]
    rw [hu]
    exact pick (fun e => k0_pay2 (F := Ideal) x w (ix2 i e)) a
  unfold partialOf
  generalize k0_pay5 (F := Ideal) x w u = g at hg ⊢
  generalize k0_pay2 (F := Ideal) x w = p at hp hg ⊢
  pointwise [k0_pay12, k0_pay11, k0_pay10, k0_pay9, k0_pay8, k0_pay7, k0_pay6, k0_pay4, k0_pay3, k0_pay1]
  have hb := pick (fun e => p (ix2 i e)) b
  have h0 := pick (fun e => p (ix2 i e)) (own0 c)
  have h1 := pick (fun e => p (ix2 i e)) (own1 c)
  beta_reduce at hb h0 h1
  rw [own0_word, own1_word, hu, hv, hg, hb, h0, h1, ← hp]
  exact congrArg₂ (· + ·) (select_added (fun e => p (ix2 i e)) a b (own0 c) _) (select_added (fun e => p (ix2 i e)) a b (own1 c) _)

/-! ## The eight partial results -/

/-- A device's own rows and the seven received blocks are the eight partial results, one per device. -/
theorem all_devices (f : Dev nD → EReal) (c : Dev nD) :
    f c + f (rot (rev 0) c) + f (rot (rev 1) c) + f (rot (rev 2) c) + f (rot (rev 3) c) + f (rot (rev 4) c) + f (rot (rev 5) c)
      + f (rot (rev 6) c) = ∑ d : Dev nD, f d := by
  have e : ∑ d : Dev nD, f d = f 0 + f 1 + f 2 + f 3 + f 4 + f 5 + f 6 + f 7 := Fin.sum_univ_eight f
  rw [e]
  fin_cases c
  · show f 0 + f 7 + f 6 + f 5 + f 4 + f 3 + f 2 + f 1 = _
    ac_rfl
  · show f 1 + f 0 + f 7 + f 6 + f 5 + f 4 + f 3 + f 2 = _
    ac_rfl
  · show f 2 + f 1 + f 0 + f 7 + f 6 + f 5 + f 4 + f 3 = _
    ac_rfl
  · show f 3 + f 2 + f 1 + f 0 + f 7 + f 6 + f 5 + f 4 = _
    ac_rfl
  · show f 4 + f 3 + f 2 + f 1 + f 0 + f 7 + f 6 + f 5 = _
    ac_rfl
  · show f 5 + f 4 + f 3 + f 2 + f 1 + f 0 + f 7 + f 6 = _
    ac_rfl
  · show f 6 + f 5 + f 4 + f 3 + f 2 + f 1 + f 0 + f 7 = _
    ac_rfl
  · show f 7 + f 6 + f 5 + f 4 + f 3 + f 2 + f 1 + f 0 = _
    ac_rfl

/-- The experts two by two are all the experts. -/
theorem all_experts (h : Fin 16 → EReal) : ∑ c : Dev nD, (h (own0 c) + h (own1 c)) = ∑ e : Fin 16, h e := by
  rw [← (finProdFinEquiv : Fin 8 × Fin 2 ≃ Fin 16).sum_comp, Fintype.sum_prod_type]
  refine Finset.sum_congr rfl fun c _ => ?_
  rw [Fin.sum_univ_two]
  congr 2 <;> refine Fin.ext ?_
  · show 2 * c.val = 0 + 2 * c.val
    omega
  · show 2 * c.val + 1 = 1 + 2 * c.val
    omega

/-- Of the sixteen experts' shares two are not zero. -/
theorem two_experts (p y : Fin 16 → EReal) (a b : Fin 16) (hab : a ≠ b) :
    ∑ e : Fin 16, added p a b e (y e) = Ideal.div (p a) (p a + p b) * y a + Ideal.div (p b) (p a + p b) * y b := by
  rw [Finset.sum_eq_add a b hab]
  · unfold added
    rw [if_pos (Or.inl rfl), if_pos (Or.inr rfl)]
  · intro e _ h
    exact if_neg fun o => o.elim (fun o => h.1 o.symm) (fun o => h.2 o.symm)
  · intro h
    exact absurd (Finset.mem_univ a) h
  · intro h
    exact absurd (Finset.mem_univ b) h

/-! ## The precondition -/

theorem bool_one : ∀ b : Bool, BitVec.ofBool b = 1#1 → b = true := by decide

/-- A word from 0 to 15 is one of the sixteen expert numbers. -/
theorem number_of (v : BitVec 32) (h0 : IntOp.cmpi .sge v 0#32 = 1#1) (h1 : IntOp.cmpi .slt v 16#32 = 1#1) :
    ∃ a : Fin 16, v = BitVec.ofNat 32 a.val := by
  have hlo : (0#32).sle v = true := bool_one _ h0
  have hhi : v.slt 16#32 = true := bool_one _ h1
  have hlt : v.toNat < 16 := by
    rw [BitVec.sle_iff_toInt_le] at hlo
    rw [BitVec.slt_iff_toInt_lt] at hhi
    have e0 : (0#32).toInt = 0 := by decide
    have e1 : (16#32).toInt = 16 := by decide
    rw [e0] at hlo
    rw [e1] at hhi
    have := BitVec.toInt_eq_toNat_cond v
    have := v.isLt
    split at * <;> omega
  exact ⟨⟨v.toNat, hlt⟩, (BitVec.ofNat_toNat 32 v ▸ (BitVec.setWidth_eq v).symm)⟩

theorem and_one {a b : BitVec 1} (h : IntOp.andi a b = 1#1) : a = 1#1 ∧ b = 1#1 := by
  revert a b; decide

/-- The precondition at a token: its two experts are two of the sixteen. -/
theorem chosen (x : FVec Ideal S256x128 .f32) (w : FVec Ideal S128x16 .f32) (ix : IVec S256x2 32) (ex : FVec Ideal S2x128x256 .f32)
    (h : Cert.Pre_top2_KernelIdeal.fn (F := Ideal) x w ix ex = fun _ => 1#1) (i : Fin 256) :
    ∃ a b : Fin 16, a ≠ b ∧ ix (ix2 i 0) = BitVec.ofNat 32 a.val ∧ ix (ix2 i 1) = BitVec.ofNat 32 b.val := by
  dsimp only [Cert.Pre_top2_KernelIdeal.fn] at h
  have h := Host.reduce_andi_all _ _ _ _ (fun a => a.elim0) (congrFun h _) (ix2 i 0)
  pointwise [] at h
  obtain ⟨h, hne⟩ := and_one h
  obtain ⟨h, h3⟩ := and_one h
  obtain ⟨h, h2⟩ := and_one h
  obtain ⟨h0, h1⟩ := and_one h
  obtain ⟨a, ha⟩ := number_of _ h0 h1
  obtain ⟨b, hb⟩ := number_of _ h2 h3
  refine ⟨a, b, ?_, ha, hb⟩
  rintro rfl
  rw [ha, hb] at hne
  have same : ∀ a : Fin 16, IntOp.cmpi .ne (BitVec.ofNat 32 a.val) (BitVec.ofNat 32 a.val) = 0#1 := by decide
  rw [same] at hne
  exact absurd hne (by decide)

/-! ## The result -/

/-- A device's partial result at an index, from the whole arrays. -/
theorem part_apply (m : (ℓ : Loc nD τ sig) → Buf (Elt Ideal) ℓ) (c : Dev nD)
    (x : FVec Ideal S256x128 .f32) (w : FVec Ideal S128x16 .f32) (ix : IVec S256x2 32) (W : FVec Ideal ⟨3, ![16, 128, 256]⟩ .f32)
    (hx : m ((c : Thread nD τ).loc main_arg0) = x) (hw : m ((c : Thread nD τ).loc main_arg1) = w)
    (hix : m ((c : Thread nD τ).loc main_arg2) = ix)
    (hW : m ((c : Thread nD τ).loc main_arg3) = Layout.block ⟨3, ![2, 128, 256]⟩ ⟨3, ![16, 128, 256]⟩ 0 8 c W)
    (i j : Fin 256) (a b : Fin 16) (ha : ix (ix2 i 0) = BitVec.ofNat 32 a.val) (hb : ix (ix2 i 1) = BitVec.ofNat 32 b.val) :
    (part m c : FVec Ideal S256x256 .f32) (ix2 i j)
      = added (fun e => soft x w (ix2 i e)) a b (own0 c) (∑ d : Fin 128, x (ix2 i d) * W (ix3 (own0 c) d j))
        + added (fun e => soft x w (ix2 i e)) a b (own1 c) (∑ d : Fin 128, x (ix2 i d) * W (ix3 (own1 c) d j)) := by
  have w0 : ∀ d : Fin 128, expert0 (F := Ideal) (estg m c) (ix3 0 d j) = W (ix3 (own0 c) d j) := by
    intro d
    rw [estg_eq, hW, expert0_apply]
    show W _ = W _
    congr 1
    funext k
    fin_cases k <;> refine Fin.ext ?_
    · show c.val * 2 + 0 = 2 * c.val
      omega
    · rfl
    · rfl
  have w1 : ∀ d : Fin 128, expert1 (F := Ideal) (estg m c) (ix3 0 d j) = W (ix3 (own1 c) d j) := by
    intro d
    rw [estg_eq, hW, expert1_apply]
    show W _ = W _
    congr 1
    funext k
    fin_cases k <;> refine Fin.ext ?_
    · show c.val * 2 + 1 = 2 * c.val + 1
      omega
    · rfl
    · rfl
  unfold part
  rw [xstg_eq, wstg_eq, istg_eq, hx, hw, hix]
  refine (partialOf_apply c x w (first (F := Ideal) ix) (second (F := Ideal) ix) (expert0 (F := Ideal) (estg m c)) (expert1 (F := Ideal) (estg m c)) i j a b
    ((first_apply ix i).trans ha) ((second_apply ix i).trans hb)).trans ?_
  simp only [w0, w1]

/-- The block a device ends with, at an index, from the whole arrays. -/
theorem outAt_apply (m : (ℓ : Loc nD τ sig) → Buf (Elt Ideal) ℓ) (c : Dev nD)
    (x : FVec Ideal S256x128 .f32) (w : FVec Ideal S128x16 .f32) (ix : IVec S256x2 32) (W : FVec Ideal ⟨3, ![16, 128, 256]⟩ .f32)
    (hx : ∀ d : Dev nD, m ((d : Thread nD τ).loc main_arg0) = x) (hw : ∀ d : Dev nD, m ((d : Thread nD τ).loc main_arg1) = w)
    (hix : ∀ d : Dev nD, m ((d : Thread nD τ).loc main_arg2) = ix)
    (hW : ∀ d : Dev nD, m ((d : Thread nD τ).loc main_arg3) = Layout.block ⟨3, ![2, 128, 256]⟩ ⟨3, ![16, 128, 256]⟩ 0 8 d W)
    (r : Fin 32) (j : Fin 256) (a b : Fin 16) (hab : a ≠ b) (ha : ix (ix2 (rowOf c r) 0) = BitVec.ofNat 32 a.val)
    (hb : ix (ix2 (rowOf c r) 1) = BitVec.ofNat 32 b.val) :
    (outAt m c : FVec Ideal S32x256 .f32) (ix2 r j)
      = Ideal.div (soft x w (ix2 (rowOf c r) a)) (soft x w (ix2 (rowOf c r) a) + soft x w (ix2 (rowOf c r) b))
          * ∑ d : Fin 128, x (ix2 (rowOf c r) d) * W (ix3 a d j)
        + Ideal.div (soft x w (ix2 (rowOf c r) b)) (soft x w (ix2 (rowOf c r) a) + soft x w (ix2 (rowOf c r) b))
          * ∑ d : Fin 128, x (ix2 (rowOf c r) d) * W (ix3 b d j) := by
  have each : ∀ d : Dev nD, (rowsAt c (part m d) : FVec Ideal S32x256 .f32) (ix2 r j) = _ := fun d =>
    (rowsAt_apply c (part m d) r j).trans
      (part_apply m d x w ix W (hx d) (hw d) (hix d) (hW d) (rowOf c r) j a b ha hb)
  have sum := all_devices (fun d => (rowsAt c (part m d) : FVec Ideal S32x256 .f32) (ix2 r j)) c
  unfold outAt got
  simp only [addf_apply]
  refine Eq.trans sum ?_
  rw [Finset.sum_congr rfl fun d _ => each d]
  exact (all_experts fun e => added (fun e => soft x w (ix2 (rowOf c r) e)) a b e (∑ d : Fin 128, x (ix2 (rowOf c r) d) * W (ix3 e d j))).trans
    (two_experts (fun e => soft x w (ix2 (rowOf c r) e)) (fun e => ∑ d : Fin 128, x (ix2 (rowOf c r) d) * W (ix3 e d j)) a b hab)

/-- The block a device ends with is its block of the reference's result. -/
theorem outAt_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (x : FVec Ideal S256x128 .f32) (w : FVec Ideal S128x16 .f32) (ix : IVec S256x2 32) (W : FVec Ideal ⟨3, ![16, 128, 256]⟩ .f32)
    (hx : ∀ d : Dev nD, m ((d : Thread nD τ).loc main_arg0) = x) (hw : ∀ d : Dev nD, m ((d : Thread nD τ).loc main_arg1) = w)
    (hix : ∀ d : Dev nD, m ((d : Thread nD τ).loc main_arg2) = ix)
    (hW : ∀ d : Dev nD, m ((d : Thread nD τ).loc main_arg3) = Layout.block ⟨3, ![2, 128, 256]⟩ ⟨3, ![16, 128, 256]⟩ 0 8 d W)
    (hx' : m' (((0 : Dev Cert.ReferenceIdeal.nD).tc : Thread Cert.ReferenceIdeal.nD Cert.ReferenceIdeal.τ).loc Cert.ReferenceIdeal.main_arg0) = x)
    (hw' : m' (((0 : Dev Cert.ReferenceIdeal.nD).tc : Thread Cert.ReferenceIdeal.nD Cert.ReferenceIdeal.τ).loc Cert.ReferenceIdeal.main_arg1) = w)
    (hix' : m' (((0 : Dev Cert.ReferenceIdeal.nD).tc : Thread Cert.ReferenceIdeal.nD Cert.ReferenceIdeal.τ).loc Cert.ReferenceIdeal.main_arg2) = ix)
    (hW' : m' (((0 : Dev Cert.ReferenceIdeal.nD).tc : Thread Cert.ReferenceIdeal.nD Cert.ReferenceIdeal.τ).loc Cert.ReferenceIdeal.main_arg3) = W)
    (hch : ∀ i : Fin 256, ∃ a b : Fin 16, a ≠ b ∧ ix (ix2 i 0) = BitVec.ofNat 32 a.val ∧ ix (ix2 i 1) = BitVec.ofNat 32 b.val) :
    (outAt m c : FVec Ideal S32x256 .f32)
      = Layout.block ⟨2, ![32, 256]⟩ ⟨2, ![256, 256]⟩ 0 8 c (res_out0 m' 0 : FVec Ideal Cert.ReferenceIdeal.S256x256 .f32) := by
  funext y
  obtain ⟨r, j, rfl⟩ : ∃ (r : Fin 32) (j : Fin 256), y = ix2 r j := ⟨y 0, y 1, funext fun k => by fin_cases k <;> rfl⟩
  obtain ⟨a, b, hab, ha, hb⟩ := hch (rowOf c r)
  rw [outAt_apply m c x w ix W hx hw hix hW r j a b hab ha hb, ← res_apply m' 0 x w ix W hx' hw' hix' hW' (rowOf c r) j a b ha hb]
  generalize (res_out0 m' 0 : FVec Ideal Cert.ReferenceIdeal.S256x256 .f32) = v
  show v _ = v _
  congr 1
  funext k
  fin_cases k <;> refine Fin.ext ?_
  · show 32 * c.val + r.val = c.val * 32 + r.val
    omega
  · rfl

/-- Over the extended reals each device ends with its block of the reference's result, given that every token chose two
different experts of the sixteen. -/
theorem algebraic : Cert.algebraic_KernelIdeal_ReferenceIdeal_pre_top2_KernelIdeal
    (hKernelIdeal := Cert.KernelIdeal.Gen.facts) (hReferenceIdeal := Cert.ReferenceIdeal.Gen.facts)
    (hPre_top2_KernelIdeal := Cert.Pre_top2_KernelIdeal.Gen.facts) := by
  intro m g m' g' hpre hm
  refine ⟨res_out0 m' 0, ?_, ?_⟩
  · refine (θ_run defs _ _).mono (fun r h c => ⟨((h.1 c (4 : Fin 5)).trans (finalA_out m c)).trans ?_, args_of m c r h.1⟩) (run_main m g)
    refine outAt_eq m m' c _ _ _ _ (fun d => (hm d).1) (fun d => (hm d).2.1) (fun d => (hm d).2.2.1) (fun d => (hm d).2.2.2) rfl rfl rfl rfl ?_
    have hc := hpre c
    rw [(hm c).2.2.1] at hc
    exact chosen _ _ _ _ hc
  · exact (θ_run Cert.ReferenceIdeal.defs _ _).mono (fun r h => h 0) (Cert.ReferenceIdeal.Value.run (F := Ideal) m' g')

end Cert.KernelIdeal.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_top2_KernelIdeal
public import proofs.«01_k».proof.Proof.Gen.Pre_top2_ReferenceIdeal
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference ends, its arguments as they were and every semaphore at zero. -/
theorem reference_quiet (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  have none : ∀ x : SemLoc Cert.ReferenceIdeal.sig, False := by decide
  (θ_run Cert.ReferenceIdeal.defs _ _).mono (fun r h => ⟨fun c => (h c).2, funext fun x => (none x.2).elim⟩) (Cert.ReferenceIdeal.Value.run (F := Ideal) m g)

theorem claim : Cert.Claim := ⟨Cert.Kernel.Gen.facts, Cert.KernelIdeal.Gen.facts, Cert.ReferenceIdeal.Gen.facts, Cert.Pre_top2_KernelIdeal.Gen.facts, Cert.Pre_top2_ReferenceIdeal.Gen.facts,
  fun m g _ => Cert.Kernel.Exchange.run_frame m g, fun m g _ => Cert.KernelIdeal.Exchange.run_frame m g, fun m g _ => Cert.KernelIdeal.Exchange.run_frame m g,
  fun m g _ => reference_quiet m g, fun m g _ => reference_quiet m g, trivial,
  Cert.KernelIdeal.Exchange.algebraic⟩

end Cert.Proof

end
